-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_finite [hPre_scales_finite : Cert.Pre_scales_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scales_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_finite [hPre_scales_finite : Cert.Pre_scales_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_scales_finite [hKernelIdeal : Cert.KernelIdeal.Facts] [hPre_scales_finite : Cert.Pre_scales_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_scales_finite [hReferenceIdeal : Cert.ReferenceIdeal.Facts] [hPre_scales_finite : Cert.Pre_scales_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_scales_finite [hKernelIdeal : Cert.KernelIdeal.Facts] [hReferenceIdeal : Cert.ReferenceIdeal.Facts] [hPre_scales_finite : Cert.Pre_scales_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_scales_finite : Cert.Pre_scales_finite.Facts),
    quiescent_Kernel (hKernel := hKernel)
    ∧ quiescent_KernelIdeal (hKernelIdeal := hKernelIdeal)
    ∧ quiescent_KernelIdeal_pre_scales_finite (hKernelIdeal := hKernelIdeal) (hPre_scales_finite := hPre_scales_finite)
    ∧ quiescent_ReferenceIdeal (hReferenceIdeal := hReferenceIdeal)
    ∧ quiescent_ReferenceIdeal_pre_scales_finite (hReferenceIdeal := hReferenceIdeal) (hPre_scales_finite := hPre_scales_finite)
    ∧ preserves_Kernel_KernelIdeal
    ∧ algebraic_KernelIdeal_ReferenceIdeal_pre_scales_finite (hKernelIdeal := hKernelIdeal) (hReferenceIdeal := hReferenceIdeal) (hPre_scales_finite := hPre_scales_finite)
-- ==== Pre_scales_finite.lean ====
abbrev S192x1x11520 : Shape := ⟨3, ![192, 1, 11520]⟩
abbrev S5760x15488 : Shape := ⟨2, ![5760, 15488]⟩
abbrev S360x15488 : Shape := ⟨2, ![360, 15488]⟩
abbrev S360x16x15488 : Shape := ⟨3, ![360, 16, 15488]⟩
abbrev S360x1x15488 : Shape := ⟨3, ![360, 1, 15488]⟩
abbrev S_ : Shape := ⟨0, ![]⟩

class Facts : Prop where
  natLt_8_32 : 8 < 32
  shapeCasts_S5760x15488_S360x16x15488 : S5760x15488.ShapeCasts S360x16x15488
  bcast_S360x15488_S360x1x15488_0_2 : S360x15488.BroadcastsInDim S360x1x15488 (![0, 2] : Fin 2 → Fin S360x1x15488.rank)
  bcast_S_S360x16x15488 : S_.BroadcastsInDim S360x16x15488 (![] : Fin 0 → Fin S360x16x15488.rank)
  bcast_S_S360x1x15488 : S_.BroadcastsInDim S360x1x15488 (![] : Fin 0 → Fin S360x1x15488.rank)
  bcast_S360x1x15488_S360x16x15488_0_1_2 : S360x1x15488.BroadcastsInDim S360x16x15488 (![0, 1, 2] : Fin 3 → Fin S360x16x15488.rank)

variable [Facts]

def fn {F : FTy → Type} [FloatOps F] (main_arg0 : FVec F S192x1x11520 .bf16) (main_arg1 : IVec S5760x15488 8) (main_arg2 : IVec S360x15488 8) : IVec S360x16x15488 1 :=
  let main_v0 : IVec S5760x15488 32 := (extui 32 · natLt_8_32) main_arg1
  let main_v1 : IVec S360x16x15488 32 := shapeCast S360x16x15488 main_v0 shapeCasts_S5760x15488_S360x16x15488
  let main_v2 : IVec S360x15488 32 := (extui 32 · natLt_8_32) main_arg2
  let main_v3 : IVec S360x1x15488 32 := broadcastInDim S360x1x15488 ![0, 2] bcast_S360x15488_S360x1x15488_0_2 main_v2
  let main_c : IVec S_ 32 := constantI S_ 32 119#32
  let main_v4 : IVec S360x16x15488 32 := broadcastInDim S360x16x15488 ![] bcast_S_S360x16x15488 main_c
  let main_v5 : IVec S360x16x15488 32 := andi main_v1 main_v4
  let main_c_0 : IVec S_ 32 := constantI S_ 32 0#32
  let main_v6 : IVec S360x16x15488 32 := broadcastInDim S360x16x15488 ![] bcast_S_S360x16x15488 main_c_0
  let main_v7 : IVec S360x16x15488 1 := cmpi .eq main_v5 main_v6
  let main_c_1 : IVec S_ 32 := constantI S_ 32 2#32
  let main_v8 : IVec S360x1x15488 32 := broadcastInDim S360x1x15488 ![] bcast_S_S360x1x15488 main_c_1
  let main_v9 : IVec S360x1x15488 1 := cmpi .uge main_v3 main_v8
  let main_c_2 : IVec S_ 32 := constantI S_ 32 252#32
  let main_v10 : IVec S360x1x15488 32 := broadcastInDim S360x1x15488 ![] bcast_S_S360x1x15488 main_c_2
  let main_v11 : IVec S360x1x15488 1 := cmpi .ule main_v3 main_v10
  let main_v12 : IVec S360x1x15488 1 := andi main_v9 main_v11
  let main_v13 : IVec S360x16x15488 1 := broadcastInDim S360x16x15488 ![0, 1, 2] bcast_S360x1x15488_S360x16x15488_0_1_2 main_v12
  let main_v14 : IVec S360x16x15488 1 := ori main_v7 main_v13
  main_v14
-- ==== Kernel.lean ====
abbrev S192x1x11520 : Shape := ⟨3, ![192, 1, 11520]⟩
abbrev S5760x15488 : Shape := ⟨2, ![5760, 15488]⟩
abbrev S360x15488 : Shape := ⟨2, ![360, 15488]⟩
abbrev S192x11520 : Shape := ⟨2, ![192, 11520]⟩
abbrev S192x15488 : Shape := ⟨2, ![192, 15488]⟩
abbrev S5760x512 : Shape := ⟨2, ![5760, 512]⟩
abbrev S360x512 : Shape := ⟨2, ![360, 512]⟩
abbrev S192x512 : Shape := ⟨2, ![192, 512]⟩
abbrev S1x512 : Shape := ⟨2, ![1, 512]⟩
abbrev S8x512 : Shape := ⟨2, ![8, 512]⟩
abbrev S16x512 : Shape := ⟨2, ![16, 512]⟩
abbrev S32x512 : Shape := ⟨2, ![32, 512]⟩
abbrev S64x512 : Shape := ⟨2, ![64, 512]⟩
abbrev S256x512 : Shape := ⟨2, ![256, 512]⟩
abbrev S192x256 : Shape := ⟨2, ![192, 256]⟩

abbrev nBuf : Space → Nat
  | .hbm => 5
  | .vmem => 8
  | .smem => 0
  | _ => 0

abbrev bufTy : (tb : Table) → Fin (tcTables nBuf tb) → BufTy
  | .hbm, ⟨0, _⟩ => ⟨S192x1x11520, .bf16⟩
  | .hbm, ⟨1, _⟩ => ⟨S5760x15488, .i8⟩
  | .hbm, ⟨2, _⟩ => ⟨S360x15488, .i8⟩
  | .hbm, ⟨3, _⟩ => ⟨S192x11520, .bf16⟩
  | .hbm, ⟨4, _⟩ => ⟨S192x15488, .bf16⟩
  | .local _ .vmem, ⟨0, _⟩ => ⟨S192x11520, .bf16⟩
  | .local _ .vmem, ⟨1, _⟩ => ⟨S5760x512, .i8⟩
  | .local _ .vmem, ⟨2, _⟩ => ⟨S5760x512, .i8⟩
  | .local _ .vmem, ⟨3, _⟩ => ⟨S360x512, .i8⟩
  | .local _ .vmem, ⟨4, _⟩ => ⟨S360x512, .i8⟩
  | .local _ .vmem, ⟨5, _⟩ => ⟨S192x512, .bf16⟩
  | .local _ .vmem, ⟨6, _⟩ => ⟨S192x512, .bf16⟩
  | .local _ .vmem, ⟨7, _⟩ => ⟨S360x512, .i32⟩
  | _, _ => ⟨S192x1x11520, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![31], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S192x11520 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S5760x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S360x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S192x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S192x1x11520 : Shape := ⟨3, ![192, 1, 11520]⟩
abbrev S5760x15488 : Shape := ⟨2, ![5760, 15488]⟩
abbrev S360x15488 : Shape := ⟨2, ![360, 15488]⟩
abbrev S360x16x15488 : Shape := ⟨3, ![360, 16, 15488]⟩
abbrev S_ : Shape := ⟨0, ![]⟩
abbrev S360x1x15488 : Shape := ⟨3, ![360, 1, 15488]⟩
abbrev S192x1x5760 : Shape := ⟨3, ![192, 1, 5760]⟩
abbrev S192x1x15488 : Shape := ⟨3, ![192, 1, 15488]⟩
abbrev S192x15488 : Shape := ⟨2, ![192, 15488]⟩

abbrev nBuf : Space → Nat
  | .hbm => 86
  | .vmem => 0
  | .smem => 0
  | _ => 0

abbrev bufTy : (tb : Table) → Fin (tcTables nBuf tb) → BufTy
  | .hbm, ⟨0, _⟩ => ⟨S192x1x11520, .bf16⟩
  | .hbm, ⟨1, _⟩ => ⟨S5760x15488, .i8⟩
  | .hbm, ⟨2, _⟩ => ⟨S360x15488, .i8⟩
  | .hbm, ⟨3, _⟩ => ⟨S5760x15488, .i32⟩
  | .hbm, ⟨4, _⟩ => ⟨S360x16x15488, .i32⟩
  | .hbm, ⟨5, _⟩ => ⟨S360x15488, .i32⟩
  | .hbm, ⟨6, _⟩ => ⟨S_, .i32⟩
  | .hbm, ⟨7, _⟩ => ⟨S360x15488, .i32⟩
  | .hbm, ⟨8, _⟩ => ⟨S360x15488, .i32⟩
  | .hbm, ⟨9, _⟩ => ⟨S_, .i32⟩
  | .hbm, ⟨10, _⟩ => ⟨S360x15488, .i32⟩
  | .hbm, ⟨11, _⟩ => ⟨S360x15488, .i32⟩
  | .hbm, ⟨12, _⟩ => ⟨S360x1x15488, .i32⟩
  | .hbm, ⟨13, _⟩ => ⟨S_, .i32⟩
  | .hbm, ⟨14, _⟩ => ⟨S360x16x15488, .i32⟩
  | .hbm, ⟨15, _⟩ => ⟨S360x16x15488, .i32⟩
  | .hbm, ⟨16, _⟩ => ⟨S_, .i32⟩
  | .hbm, ⟨17, _⟩ => ⟨S360x16x15488, .i32⟩
  | .hbm, ⟨18, _⟩ => ⟨S360x16x15488, .i32⟩
  | .hbm, ⟨19, _⟩ => ⟨S_, .i32⟩
  | .hbm, ⟨20, _⟩ => ⟨S360x16x15488, .i32⟩
  | .hbm, ⟨21, _⟩ => ⟨S360x16x15488, .i32⟩
  | .hbm, ⟨22, _⟩ => ⟨S_, .i32⟩
  | .hbm, ⟨23, _⟩ => ⟨S360x16x15488, .i32⟩
  | .hbm, ⟨24, _⟩ => ⟨S360x16x15488, .i32⟩
  | .hbm, ⟨25, _⟩ => ⟨S_, .i32⟩
  | .hbm, ⟨26, _⟩ => ⟨S360x16x15488, .i32⟩
  | .hbm, ⟨27, _⟩ => ⟨S360x16x15488, .i32⟩
  | .hbm, ⟨28, _⟩ => ⟨S360x16x15488, .i32⟩
  | .hbm, ⟨29, _⟩ => ⟨S360x16x15488, .i32⟩
  | .hbm, ⟨30, _⟩ => ⟨S_, .i32⟩
  | .hbm, ⟨31, _⟩ => ⟨S360x16x15488, .i32⟩
  | .hbm, ⟨32, _⟩ => ⟨S360x16x15488, .i1⟩
  | .hbm, ⟨33, _⟩ => ⟨S_, .i32⟩
  | .hbm, ⟨34, _⟩ => ⟨S360x16x15488, .i32⟩
  | .hbm, ⟨35, _⟩ => ⟨S360x16x15488, .i1⟩
  | .hbm, ⟨36, _⟩ => ⟨S_, .i32⟩
  | .hbm, ⟨37, _⟩ => ⟨S_, .i32⟩
  | .hbm, ⟨38, _⟩ => ⟨S360x16x15488, .i32⟩
  | .hbm, ⟨39, _⟩ => ⟨S360x16x15488, .i32⟩
  | .hbm, ⟨40, _⟩ => ⟨S360x16x15488, .i32⟩
  | .hbm, ⟨41, _⟩ => ⟨S360x16x15488, .i32⟩
  | .hbm, ⟨42, _⟩ => ⟨S360x16x15488, .i32⟩
  | .hbm, ⟨43, _⟩ => ⟨S360x16x15488, .i16⟩
  | .hbm, ⟨44, _⟩ => ⟨S360x16x15488, .bf16⟩
  | .hbm, ⟨45, _⟩ => ⟨S5760x15488, .bf16⟩
  | .hbm, ⟨46, _⟩ => ⟨S_, .i32⟩
  | .hbm, ⟨47, _⟩ => ⟨S360x16x15488, .i32⟩
  | .hbm, ⟨48, _⟩ => ⟨S360x16x15488, .i32⟩
  | .hbm, ⟨49, _⟩ => ⟨S_, .i32⟩
  | .hbm, ⟨50, _⟩ => ⟨S360x16x15488, .i32⟩
  | .hbm, ⟨51, _⟩ => ⟨S360x16x15488, .i32⟩
  | .hbm, ⟨52, _⟩ => ⟨S_, .i32⟩
  | .hbm, ⟨53, _⟩ => ⟨S360x16x15488, .i32⟩
  | .hbm, ⟨54, _⟩ => ⟨S360x16x15488, .i32⟩
  | .hbm, ⟨55, _⟩ => ⟨S_, .i32⟩
  | .hbm, ⟨56, _⟩ => ⟨S360x16x15488, .i32⟩
  | .hbm, ⟨57, _⟩ => ⟨S360x16x15488, .i32⟩
  | .hbm, ⟨58, _⟩ => ⟨S_, .i32⟩
  | .hbm, ⟨59, _⟩ => ⟨S360x16x15488, .i32⟩
  | .hbm, ⟨60, _⟩ => ⟨S360x16x15488, .i32⟩
  | .hbm, ⟨61, _⟩ => ⟨S360x16x15488, .i32⟩
  | .hbm, ⟨62, _⟩ => ⟨S360x16x15488, .i32⟩
  | .hbm, ⟨63, _⟩ => ⟨S_, .i32⟩
  | .hbm, ⟨64, _⟩ => ⟨S360x16x15488, .i32⟩
  | .hbm, ⟨65, _⟩ => ⟨S360x16x15488, .i1⟩
  | .hbm, ⟨66, _⟩ => ⟨S_, .i32⟩
  | .hbm, ⟨67, _⟩ => ⟨S360x16x15488, .i32⟩
  | .hbm, ⟨68, _⟩ => ⟨S360x16x15488, .i1⟩
  | .hbm, ⟨69, _⟩ => ⟨S_, .i32⟩
  | .hbm, ⟨70, _⟩ => ⟨S_, .i32⟩
  | .hbm, ⟨71, _⟩ => ⟨S360x16x15488, .i32⟩
  | .hbm, ⟨72, _⟩ => ⟨S360x16x15488, .i32⟩
  | .hbm, ⟨73, _⟩ => ⟨S360x16x15488, .i32⟩
  | .hbm, ⟨74, _⟩ => ⟨S360x16x15488, .i32⟩
  | .hbm, ⟨75, _⟩ => ⟨S360x16x15488, .i32⟩
  | .hbm, ⟨76, _⟩ => ⟨S360x16x15488, .i16⟩
  | .hbm, ⟨77, _⟩ => ⟨S360x16x15488, .bf16⟩
  | .hbm, ⟨78, _⟩ => ⟨S5760x15488, .bf16⟩
  | .hbm, ⟨79, _⟩ => ⟨S192x1x5760, .bf16⟩
  | .hbm, ⟨80, _⟩ => ⟨S192x1x5760, .bf16⟩
  | .hbm, ⟨81, _⟩ => ⟨S192x1x15488, .f32⟩
  | .hbm, ⟨82, _⟩ => ⟨S192x1x15488, .f32⟩
  | .hbm, ⟨83, _⟩ => ⟨S192x1x15488, .f32⟩
  | .hbm, ⟨84, _⟩ => ⟨S192x1x15488, .bf16⟩
  | .hbm, ⟨85, _⟩ => ⟨S192x15488, .bf16⟩
  | _, _ => ⟨S192x1x11520, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_v8 : Ref sig .tc := ⟨.hbm, 14, rfl⟩
abbrev main_v9 : Ref sig .tc := ⟨.hbm, 15, rfl⟩
abbrev main_c_2 : Ref sig .tc := ⟨.hbm, 16, rfl⟩
abbrev main_v10 : Ref sig .tc := ⟨.hbm, 17, rfl⟩
abbrev main_v11 : Ref sig .tc := ⟨.hbm, 18, rfl⟩
abbrev main_c_3 : Ref sig .tc := ⟨.hbm, 19, rfl⟩
abbrev main_v12 : Ref sig .tc := ⟨.hbm, 20, rfl⟩
abbrev main_v13 : Ref sig .tc := ⟨.hbm, 21, rfl⟩
abbrev main_c_4 : Ref sig .tc := ⟨.hbm, 22, rfl⟩
abbrev main_v14 : Ref sig .tc := ⟨.hbm, 23, rfl⟩
abbrev main_v15 : Ref sig .tc := ⟨.hbm, 24, rfl⟩
abbrev main_c_5 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_6 : Ref sig .tc := ⟨.hbm, 30, rfl⟩
abbrev main_v20 : Ref sig .tc := ⟨.hbm, 31, rfl⟩
abbrev main_v21 : Ref sig .tc := ⟨.hbm, 32, rfl⟩
abbrev main_c_7 : Ref sig .tc := ⟨.hbm, 33, rfl⟩
abbrev main_v22 : Ref sig .tc := ⟨.hbm, 34, rfl⟩
abbrev main_v23 : Ref sig .tc := ⟨.hbm, 35, rfl⟩
abbrev main_c_8 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_9 : Ref sig .tc := ⟨.hbm, 46, rfl⟩
abbrev main_v30 : Ref sig .tc := ⟨.hbm, 47, rfl⟩
abbrev main_v31 : Ref sig .tc := ⟨.hbm, 48, rfl⟩
abbrev main_c_10 : Ref sig .tc := ⟨.hbm, 49, rfl⟩
abbrev main_v32 : Ref sig .tc := ⟨.hbm, 50, rfl⟩
abbrev main_v33 : Ref sig .tc := ⟨.hbm, 51, rfl⟩
abbrev main_c_11 : Ref sig .tc := ⟨.hbm, 52, rfl⟩
abbrev main_v34 : Ref sig .tc := ⟨.hbm, 53, rfl⟩
abbrev main_v35 : Ref sig .tc := ⟨.hbm, 54, rfl⟩
abbrev main_c_12 : Ref sig .tc := ⟨.hbm, 55, rfl⟩
abbrev main_v36 : Ref sig .tc := ⟨.hbm, 56, rfl⟩
abbrev main_v37 : Ref sig .tc := ⟨.hbm, 57, rfl⟩
abbrev main_c_13 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_c_14 : Ref sig .tc := ⟨.hbm, 63, rfl⟩
abbrev main_v42 : Ref sig .tc := ⟨.hbm, 64, rfl⟩
abbrev main_v43 : Ref sig .tc := ⟨.hbm, 65, rfl⟩
abbrev main_c_15 : Ref sig .tc := ⟨.hbm, 66, rfl⟩
abbrev main_v44 : Ref sig .tc := ⟨.hbm, 67, rfl⟩
abbrev main_v45 : Ref sig .tc := ⟨.hbm, 68, rfl⟩
abbrev main_c_16 : Ref sig .tc := ⟨.hbm, 69, rfl⟩
abbrev main_call2_v0 : Ref sig .tc := ⟨.hbm, 70, rfl⟩
abbrev main_call2_v1 : Ref sig .tc := ⟨.hbm, 71, rfl⟩
abbrev main_call2_v2 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩

abbrev nD : Nat := 1
abbrev τ : Topo := Topo.v7x

variable {F : FTy → Type} [FloatOps F]
-- ==== Proof.KernelBody.lean ====
/-
  The kernel's body as a recursion.

  The printed body is one straight run of some thirteen thousand statements: forty-five K tiles of 256 columns of
  `x`, each of eight blocks of thirty-two weights. Here the same program is written once for a symbolic K tile
  (`stepAt`) and run over the tiles by recursion (`tilesFrom`); `body_eq` says the printed body is that program. It
  then has ONE Hoare triple (`wp_body`), by induction over the tiles: from any contents `X`, `C`, `S` of the three
  input buffers the result's buffer ends holding `bodyVal X C S`, for any float values.
-/
module

public import proofs.«01_k».proof.Proof.Gen.Kernel
public import Idealize.ShloMosaic.Lib.Pipeline.FrameBody
public import Idealize.ShloMosaic.Lib.Pipeline.Regions
public import Idealize.ShloMosaic.Lib.Tactic

@[expose] public section

noncomputable section

namespace Cert.Kernel.Body

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The rectangles the body loads -/

theorem inb_scale (r : Nat) (h : r < 360) (a : Fin 2) : (![r, 0] : Fin 2 → Nat) a + S1x512.size a ≤ S360x512.size a := by
  fin_cases a
  · show r + 1 ≤ 360; omega
  · show 0 + 512 ≤ 512; omega

theorem inb_codes (r : Nat) (h : r + 32 ≤ 5760) (a : Fin 2) : (![r, 0] : Fin 2 → Nat) a + S32x512.size a ≤ S5760x512.size a := by
  fin_cases a
  · exact h
  · show 0 + 512 ≤ 512; omega

theorem inb_x (k : Nat) (h : k + 256 ≤ 11520) (a : Fin 2) : (![0, k] : Fin 2 → Nat) a + S192x256.size a ≤ S192x11520.size a := by
  fin_cases a
  · show 0 + 192 ≤ 192; omega
  · exact h

theorem slices_half (p : Nat) (h : p + 32 ≤ 64) : S64x512.Slices ![p, 0] S32x512 :=
  ⟨rfl, fun a => by
    fin_cases a
    · exact h
    · show 0 + 512 ≤ 512; omega⟩

/-- Row `r` of the scale words; -/
abbrev scaleRect (r : Nat) (h : r < 360) : Rect S360x512 := Rect.unit (s := S360x512) ![r, 0] S1x512.size (inb_scale r h)
/-- thirty-two rows of codes from row `r`; -/
abbrev codesRect (r : Nat) (h : r + 32 ≤ 5760) : Rect S5760x512 := Rect.unit (s := S5760x512) ![r, 0] S32x512.size (inb_codes r h)
/-- 256 columns of `x` from column `k`. -/
abbrev xRect (k : Nat) (h : k + 256 ≤ 11520) : Rect S192x11520 := Rect.unit (s := S192x11520) ![0, k] S192x256.size (inb_x k h)

/-! ## What the body computes -/

/-- The scale bytes as words holding the scale's bfloat16 bits in both halves. -/
def scaleWords (s : Vec F S360x512 .i8) : IVec S360x512 32 :=
  shapeCast S360x512
    (ori (shli (extui 32 s natLt_8_32) (broadcast S360x512 7#32)) (shli (extui 32 s natLt_8_32) (broadcast S360x512 23#32)))
    shapeCasts_S360x512_S360x512

/-- A row of those words as sixteen rows of bfloat16 scales. -/
def scaleRows (s : Vec F S1x512 .i32) : FVec F S16x512 .bf16 :=
  bitcastToFloat .bf16 (bitcast S16x512 16 (broadcastTo S8x512 (shapeCast S1x512 s shapeCasts_S1x512_S1x512) broadcasts_S1x512_S8x512)
    bitcasts_S8x512_w32_S16x512_w16)

/-- Thirty-two rows of codes, each the two rows of four-bit floats its nibbles are. -/
def decode (c : Vec F S32x512 .i8) : FVec F S64x512 .bf16 :=
  mulf
    (extf .bf16 (bitcastToFloat .fp8e4m3 (trunci 8 (bitcast S64x512 16
      (ori
        (andi (muli (extui 32 c natLt_8_32) (broadcast S32x512 16388#32)) (broadcast S32x512 1835036#32))
        (andi (muli (extui 32 c natLt_8_32) (broadcast S32x512 65552#32)) (broadcast S32x512 8388736#32)))
      bitcasts_S32x512_w32_S64x512_w16) natLt_8_16)) bitsLt_fp8e4m3_bf16)
    (broadcast S64x512 (Scalar.ofBits (F := F) .bf16 0x4280#16))

/-- The first sixteen rows of a block of weights: the decoded rows from `p`, scaled; -/
def wLo (p : Nat) (hp : p + 32 ≤ 64) (s : Vec F S1x512 .i32) (c : Vec F S32x512 .i8) : FVec F S16x512 .bf16 :=
  mulf (extractStridedSlice S16x512 ![0, 0] (extractStridedSlice S32x512 ![p, 0] (decode c) (slices_half p hp)) slices_S32x512_o0_0_S16x512)
    (scaleRows s)
/-- and its last sixteen. -/
def wHi (p : Nat) (hp : p + 32 ≤ 64) (s : Vec F S1x512 .i32) (c : Vec F S32x512 .i8) : FVec F S16x512 .bf16 :=
  mulf (extractStridedSlice S16x512 ![16, 0] (extractStridedSlice S32x512 ![p, 0] (decode c) (slices_half p hp)) slices_S32x512_o16_0_S16x512)
    (scaleRows s)

theorem h0 : 0 + 32 ≤ 64 := by decide
theorem h32 : 32 + 32 ≤ 64 := by decide

/-- A K tile's product: 256 columns of `x` by the tile's eight blocks of weights, block by block. -/
def prodTile (x : Vec F S192x256 .bf16) (s0 : Vec F S1x512 .i32) (c0 : Vec F S32x512 .i8) (s1 : Vec F S1x512 .i32) (c1 : Vec F S32x512 .i8)
    (s2 : Vec F S1x512 .i32) (c2 : Vec F S32x512 .i8) (s3 : Vec F S1x512 .i32) (c3 : Vec F S32x512 .i8)
    (s4 : Vec F S1x512 .i32) (c4 : Vec F S32x512 .i8) (s5 : Vec F S1x512 .i32) (c5 : Vec F S32x512 .i8)
    (s6 : Vec F S1x512 .i32) (c6 : Vec F S32x512 .i8) (s7 : Vec F S1x512 .i32) (c7 : Vec F S32x512 .i8) : FVec F S192x512 .f32 :=
  matmul dot_S192x256_S256x512_S192x512_1_0_0_1_n_n none (shapeCast S192x256 x shapeCasts_S192x256_S192x256)
    (concatenate S256x512 0 [⟨S16x512, wLo 0 h0 s0 c0⟩, ⟨S16x512, wHi 0 h0 s0 c0⟩, ⟨S16x512, wLo 32 h32 s1 c1⟩, ⟨S16x512, wHi 32 h32 s1 c1⟩,
        ⟨S16x512, wLo 0 h0 s2 c2⟩, ⟨S16x512, wHi 0 h0 s2 c2⟩, ⟨S16x512, wLo 32 h32 s3 c3⟩, ⟨S16x512, wHi 32 h32 s3 c3⟩,
        ⟨S16x512, wLo 0 h0 s4 c4⟩, ⟨S16x512, wHi 0 h0 s4 c4⟩, ⟨S16x512, wLo 32 h32 s5 c5⟩, ⟨S16x512, wHi 32 h32 s5 c5⟩,
        ⟨S16x512, wLo 0 h0 s6 c6⟩, ⟨S16x512, wHi 0 h0 s6 c6⟩, ⟨S16x512, wLo 32 h32 s7 c7⟩, ⟨S16x512, wHi 32 h32 s7 c7⟩]
      concatenates_S16x512_S16x512_S16x512_S16x512_S16x512_S16x512_S16x512_S16x512_S16x512_S16x512_S16x512_S16x512_S16x512_S16x512_S16x512_S16x512_S256x512_d0)
    (constant S192x512 .f32 0x00000000#32)

/-! ## The body, a tile at a time -/

section Program

variable (arg1 : Memref sig .tc .vmem S192x11520 .bf16) (arg2 : Memref sig .tc .vmem S5760x512 .i8)
  (arg3 : Memref sig .tc .vmem S360x512 .i8) (arg4 : Memref sig .tc .vmem S192x512 .bf16) (harg4 : arg4.IsWhole)
  (arg5 : Memref sig .tc .vmem S360x512 .i32)

/-- The effects of the kernel's programs. -/
abbrev E₀ (F : FTy → Type) [FloatOps F] := TpuEff nD τ sig (Elt F) Λ₀ .tc

def loadScale (r : Nat) (h : r < 360) : Prog (E₀ F) (Vec F S1x512 .i32) :=
  Prog.lift (.load arg5 (scaleRect r h).toLoadRect (View.loadsAt_vmem h_S1x512))
def loadCodes (r : Nat) (h : r + 32 ≤ 5760) : Prog (E₀ F) (Vec F S32x512 .i8) :=
  Prog.lift (.load arg2 (codesRect r h).toLoadRect (View.loadsAt_vmem h_S32x512))
def loadX (k : Nat) (h : k + 256 ≤ 11520) : Prog (E₀ F) (Vec F S192x256 .bf16) :=
  Prog.lift (.load arg1 (xRect k h).toLoadRect (View.loadsAt_vmem h_S192x256))

/-- K tile `k`: its eight blocks' scales and codes, its columns of `x`, their product. -/
def stepAt (k : Nat) (hk : k < 45) : Prog (E₀ F) (FVec F S192x512 .f32) := do
  let s0 ← loadScale arg5 (8 * k) (by omega)
  let c0 ← loadCodes arg2 (128 * k) (by omega)
  let s1 ← loadScale arg5 (8 * k + 1) (by omega)
  let c1 ← loadCodes arg2 (128 * k) (by omega)
  let s2 ← loadScale arg5 (8 * k + 2) (by omega)
  let c2 ← loadCodes arg2 (128 * k + 32) (by omega)
  let s3 ← loadScale arg5 (8 * k + 3) (by omega)
  let c3 ← loadCodes arg2 (128 * k + 32) (by omega)
  let s4 ← loadScale arg5 (8 * k + 4) (by omega)
  let c4 ← loadCodes arg2 (128 * k + 64) (by omega)
  let s5 ← loadScale arg5 (8 * k + 5) (by omega)
  let c5 ← loadCodes arg2 (128 * k + 64) (by omega)
  let s6 ← loadScale arg5 (8 * k + 6) (by omega)
  let c6 ← loadCodes arg2 (128 * k + 96) (by omega)
  let s7 ← loadScale arg5 (8 * k + 7) (by omega)
  let c7 ← loadCodes arg2 (128 * k + 96) (by omega)
  let x ← loadX arg1 (256 * k) (by omega)
  pure (prodTile x s0 c0 s1 c1 s2 c2 s3 c3 s4 c4 s5 c5 s6 c6 s7 c7)

/-- The last `n` K tiles, each added to the accumulator. -/
def tilesFrom : Nat → FVec F S192x512 .f32 → Prog (E₀ F) (FVec F S192x512 .f32)
  | 0, acc => pure acc
  | n + 1, acc => do
    let p ← stepAt arg1 arg2 arg5 (44 - n) (by omega)
    tilesFrom n (addf acc p)

/-- The body: the scale words stored, the K tiles summed, the sum rounded and stored. -/
def body : Prog (E₀ F) PUnit := do
  let s : Vec F S360x512 .i8 ← Prog.lift (.load arg3 (Rect.unit (s := S360x512) ![0, 0] S360x512.size inb_S360x512_S360x512_0_0).toLoadRect (View.loadsAt_vmem h_S360x512))
  let _ : Vec F S360x512 .i32 ← Prog.lift (.load arg5 (Rect.unit (s := S360x512) ![0, 0] S360x512.size inb_S360x512_S360x512_0_0).toLoadRect (View.loadsAt_vmem h_S360x512))
  Prog.lift (.store arg5 (Rect.unit (s := S360x512) ![0, 0] S360x512.size inb_S360x512_S360x512_0_0) (scaleWords (F := F) s) Finset.univ (View.stores_vmem_bits_univ h_S360x512 rfl) (.inl rfl))
  let p ← stepAt arg1 arg2 arg5 0 (by omega)
  let y ← tilesFrom arg1 arg2 arg5 44 p
  let _ : Vec F S192x512 .bf16 ← Prog.lift (.load arg4 (Rect.unit (s := S192x512) ![0, 0] S192x512.size inb_S192x512_S192x512_0_0).toLoadRect (View.loadsAt_vmem h_S192x512))
  Prog.lift (.store arg4 (Rect.unit (s := S192x512) ![0, 0] S192x512.size inb_S192x512_S192x512_0_0) (truncf .bf16 y bitsLt_bf16_f32 : FVec F S192x512 .bf16) Finset.univ (View.stores_vmem h_S192x512 (harg4.storeExact_slice rfl _ packedbf16_S192x512_S192x512_0_0) (fun _ => rfl)) (.inl rfl))
  pure ⟨⟩

end Program

/-- The printed body is that program. -/
theorem body_eq (i : grid0.Coords) (arg1 : Memref sig .tc .vmem S192x11520 .bf16) (harg1 : arg1.IsWhole) (arg2 : Memref sig .tc .vmem S5760x512 .i8) (harg2 : arg2.IsWhole)
    (arg3 : Memref sig .tc .vmem S360x512 .i8) (harg3 : arg3.IsWhole) (arg4 : Memref sig .tc .vmem S192x512 .bf16) (harg4 : arg4.IsWhole)
    (arg5 : Memref sig .tc .vmem S360x512 .i32) (harg5 : arg5.IsWhole) :
    cc0_mxfp4_linear (F := F) i arg1 harg1 arg2 harg2 arg3 harg3 arg4 harg4 arg5 harg5 = body arg1 arg2 arg3 arg4 harg4 arg5 := by
  chain_rfl

/-! ## Its value -/

/-- K tile `k`'s product, of what the three buffers hold. -/
def tileVal (X : Vec F S192x11520 .bf16) (C : Vec F S5760x512 .i8) (S : Vec F S360x512 .i32) (k : Nat) (hk : k < 45) : FVec F S192x512 .f32 :=
  prodTile (View.ld X (xRect (256 * k) (by omega)))
    (View.ld S (scaleRect (8 * k) (by omega))) (View.ld C (codesRect (128 * k) (by omega)))
    (View.ld S (scaleRect (8 * k + 1) (by omega))) (View.ld C (codesRect (128 * k) (by omega)))
    (View.ld S (scaleRect (8 * k + 2) (by omega))) (View.ld C (codesRect (128 * k + 32) (by omega)))
    (View.ld S (scaleRect (8 * k + 3) (by omega))) (View.ld C (codesRect (128 * k + 32) (by omega)))
    (View.ld S (scaleRect (8 * k + 4) (by omega))) (View.ld C (codesRect (128 * k + 64) (by omega)))
    (View.ld S (scaleRect (8 * k + 5) (by omega))) (View.ld C (codesRect (128 * k + 64) (by omega)))
    (View.ld S (scaleRect (8 * k + 6) (by omega))) (View.ld C (codesRect (128 * k + 96) (by omega)))
    (View.ld S (scaleRect (8 * k + 7) (by omega))) (View.ld C (codesRect (128 * k + 96) (by omega)))

/-- The last `n` tiles' products added to `acc`, in order. -/
def sumFrom (X : Vec F S192x11520 .bf16) (C : Vec F S5760x512 .i8) (S : Vec F S360x512 .i32) : Nat → FVec F S192x512 .f32 → FVec F S192x512 .f32
  | 0, acc => acc
  | n + 1, acc => sumFrom X C S n (addf acc (tileVal X C S (44 - n) (by omega)))

/-- What the body leaves in the result's buffer. -/
def bodyVal (X : Vec F S192x11520 .bf16) (C : Vec F S5760x512 .i8) (S : Vec F S360x512 .i8) : FVec F S192x512 .bf16 :=
  truncf .bf16 (sumFrom X C (scaleWords (F := F) S) 44 (tileVal X C (scaleWords (F := F) S) 0 (by omega))) bitsLt_bf16_f32

/-! ## Its triple -/

section Triple

local notation "𝕄" => MT nD τ sig Unit (Elt F) ℕ (UR sig nD τ) ℕ

/-- The kernel's variants: none. -/
abbrev 𝒱₀ : Variants := Variants.none

/-- A load at the head of a program, of a buffer owned at known contents. -/
theorem wp_load_owns (c : Dev nD) (E : Set ℕ) {α : Type} {sp : CoreSpace} {s : Shape} {e : EltTy} (mr : Memref sig .tc sp s e) (r : Rect s)
    (hl : mr.view.LoadsAt r.toLoadRect) (X : s.Idx → Elt F e) (k : (r.shape.Idx → Elt F e) → Prog (E₀ F) α) (Q : α → sProp 𝕄) :
    owns (c : Thread nD τ) mr fullShare X
      ⊢ iprop((owns (c : Thread nD τ) mr fullShare X -∗ wp frame (wpE (defs₀ (F := F)) 𝒱₀ (c : Thread nD τ) none) E (k (View.ld X r)) Q)
        -∗ wp frame (wpE (defs₀ (F := F)) 𝒱₀ (c : Thread nD τ) none) E (.op (.load mr r.toLoadRect hl) k) Q) := by
  unfold owns
  iintro ⟨%f, %hf, H⟩ Hk
  subst hf
  iapply (wp_load (defs := defs₀ (F := F)) 𝒱₀ (c : Thread nD τ) none E (m := mr) (r := r.toLoadRect) (hl := hl) (k := k) (q := fullShare) (f := f)
    (View.setOn_subset_set _ _)) $$ H
  iintro H
  iapply Hk
  iexists f; isplitr; · ipureintro; rfl
  iexact H

/-- An unmasked store of a whole buffer at the head of a program. -/
theorem wp_store_owns (c : Dev nD) (E : Set ℕ) {α : Type} {sp : CoreSpace} {s : Shape} {e : EltTy} (mr : Memref sig .tc sp s e) {off : Fin s.rank → Nat}
    (hoff : off = fun _ => 0) (inb : ∀ a, off a + s.size a ≤ s.size a) (w : s.Idx → Elt F e)
    (hx : (mr.access (Rect.unit (s := s) off s.size inb)).Stores Finset.univ)
    (hm : (Finset.univ : Finset (Rect.unit (s := s) off s.size inb).shape.Idx) = Finset.univ ∨ ∀ a, (Rect.unit (s := s) off s.size inb).stride a = 1)
    (X : s.Idx → Elt F e) (k : PUnit → Prog (E₀ F) α) (Q : α → sProp 𝕄) :
    owns (c : Thread nD τ) mr fullShare X
      ⊢ iprop((owns (c : Thread nD τ) mr fullShare w -∗ wp frame (wpE (defs₀ (F := F)) 𝒱₀ (c : Thread nD τ) none) E (k ⟨⟩) Q)
        -∗ wp frame (wpE (defs₀ (F := F)) 𝒱₀ (c : Thread nD τ) none) E (.op (.store mr (Rect.unit (s := s) off s.size inb) w Finset.univ hx hm) k) Q) := by
  unfold owns
  iintro ⟨%f, %hf, H⟩ Hk
  iapply (wp_store (defs := defs₀ (F := F)) 𝒱₀ (c : Thread nD τ) none E (m := mr) (r := Rect.unit (s := s) off s.size inb) (w := w) (Mk := Finset.univ)
    (hx := hx) (hm := hm) (k := k) (S := mr.view.set) (f := f) (View.setOn_slice_subset_set _ _ _)) $$ H
  iintro H
  iapply Hk
  iexists ((mr.access (Rect.unit (s := s) off s.size inb)).write (Elt F) f w Finset.univ)
  isplitr
  · ipureintro
    subst hoff
    funext x
    have hx' : (Rect.unit (s := s) (fun _ => 0) s.size inb).emb x = x := by
      funext a; exact Fin.ext (by show 0 + 1 * (x a).val = (x a).val; omega)
    have := View.read_slice_write_emb (Val := Elt F) (v := mr.view) (Rect.unit (s := s) (fun _ => 0) s.size inb) f w (M := Finset.univ) (x := x) (Finset.mem_univ _)
    rw [hx'] at this
    exact this
  iexact H

variable (arg1 : Memref sig .tc .vmem S192x11520 .bf16) (arg2 : Memref sig .tc .vmem S5760x512 .i8)
  (arg3 : Memref sig .tc .vmem S360x512 .i8) (arg4 : Memref sig .tc .vmem S192x512 .bf16) (harg4 : arg4.IsWhole)
  (arg5 : Memref sig .tc .vmem S360x512 .i32)

/-- One K tile: the buffers as they were, the tile's product handed on. -/
theorem wp_stepAt (c : Dev nD) (E : Set ℕ) (X : Vec F S192x11520 .bf16) (C : Vec F S5760x512 .i8) (S : Vec F S360x512 .i32) (k : Nat) (hk : k < 45)
    {α : Type} (K : FVec F S192x512 .f32 → Prog (E₀ F) α) (Q : α → sProp 𝕄) :
    iprop((owns (c : Thread nD τ) arg1 fullShare X ∗ owns (c : Thread nD τ) arg2 fullShare C ∗ owns (c : Thread nD τ) arg5 fullShare S)
        ∗ ((owns (c : Thread nD τ) arg1 fullShare X ∗ owns (c : Thread nD τ) arg2 fullShare C ∗ owns (c : Thread nD τ) arg5 fullShare S)
            -∗ wp frame (wpE (defs₀ (F := F)) 𝒱₀ (c : Thread nD τ) none) E (K (tileVal X C S k hk)) Q))
      ⊢ wp frame (wpE (defs₀ (F := F)) 𝒱₀ (c : Thread nD τ) none) E (stepAt arg1 arg2 arg5 k hk >>= K) Q := by
  simp only [stepAt, loadScale, loadCodes, loadX, Prog.lift, Prog.bind_op, Prog.bind_ret, Prog.bind_assoc]
  iintro ⟨⟨H1, H2, H5⟩, Hk⟩
  iapply (wp_load_owns c E arg5 _ _ S _ Q) $$ H5
  iintro H5
  iapply (wp_load_owns c E arg2 _ _ C _ Q) $$ H2
  iintro H2
  iapply (wp_load_owns c E arg5 _ _ S _ Q) $$ H5
  iintro H5
  iapply (wp_load_owns c E arg2 _ _ C _ Q) $$ H2
  iintro H2
  iapply (wp_load_owns c E arg5 _ _ S _ Q) $$ H5
  iintro H5
  iapply (wp_load_owns c E arg2 _ _ C _ Q) $$ H2
  iintro H2
  iapply (wp_load_owns c E arg5 _ _ S _ Q) $$ H5
  iintro H5
  iapply (wp_load_owns c E arg2 _ _ C _ Q) $$ H2
  iintro H2
  iapply (wp_load_owns c E arg5 _ _ S _ Q) $$ H5
  iintro H5
  iapply (wp_load_owns c E arg2 _ _ C _ Q) $$ H2
  iintro H2
  iapply (wp_load_owns c E arg5 _ _ S _ Q) $$ H5
  iintro H5
  iapply (wp_load_owns c E arg2 _ _ C _ Q) $$ H2
  iintro H2
  iapply (wp_load_owns c E arg5 _ _ S _ Q) $$ H5
  iintro H5
  iapply (wp_load_owns c E arg2 _ _ C _ Q) $$ H2
  iintro H2
  iapply (wp_load_owns c E arg5 _ _ S _ Q) $$ H5
  iintro H5
  iapply (wp_load_owns c E arg2 _ _ C _ Q) $$ H2
  iintro H2
  iapply (wp_load_owns c E arg1 _ _ X _ Q) $$ H1
  iintro H1
  iapply Hk
  isplitl [H1]; · iexact H1
  isplitl [H2]; · iexact H2
  iexact H5

/-- The last `n` tiles. -/
theorem wp_tilesFrom (c : Dev nD) (E : Set ℕ) (X : Vec F S192x11520 .bf16) (C : Vec F S5760x512 .i8) (S : Vec F S360x512 .i32)
    {α : Type} (K : FVec F S192x512 .f32 → Prog (E₀ F) α) (Q : α → sProp 𝕄) (n : Nat) : ∀ acc : FVec F S192x512 .f32,
    iprop((owns (c : Thread nD τ) arg1 fullShare X ∗ owns (c : Thread nD τ) arg2 fullShare C ∗ owns (c : Thread nD τ) arg5 fullShare S)
        ∗ ((owns (c : Thread nD τ) arg1 fullShare X ∗ owns (c : Thread nD τ) arg2 fullShare C ∗ owns (c : Thread nD τ) arg5 fullShare S)
            -∗ wp frame (wpE (defs₀ (F := F)) 𝒱₀ (c : Thread nD τ) none) E (K (sumFrom X C S n acc)) Q))
      ⊢ wp frame (wpE (defs₀ (F := F)) 𝒱₀ (c : Thread nD τ) none) E (tilesFrom arg1 arg2 arg5 n acc >>= K) Q := by
  induction n with
  | zero =>
    intro acc
    iintro ⟨H, Hk⟩
    iapply Hk $$ H
  | succ n ih =>
    intro acc
    show _ ⊢ wp _ _ _ ((stepAt arg1 arg2 arg5 (44 - n) _ >>= fun p => tilesFrom arg1 arg2 arg5 n (addf acc p)) >>= K) Q
    rw [Prog.bind_assoc]
    refine BIBase.Entails.trans ?_ (wp_stepAt arg1 arg2 arg5 c E X C S (44 - n) (by omega) _ Q)
    iintro ⟨H, Hk⟩
    isplitl [H]; · iexact H
    iintro H
    iapply (ih _)
    isplitl [H]; · iexact H
    iexact Hk

/-- The body: the three input buffers as they were, the result's holding the body's value, the scratch whatever
    it holds. -/
theorem wp_body (c : Dev nD) (E : Set ℕ) (X : Vec F S192x11520 .bf16) (C : Vec F S5760x512 .i8) (S : Vec F S360x512 .i8) (O : Vec F S192x512 .bf16)
    (W : Vec F S360x512 .i32) (K : PUnit → sProp 𝕄) :
    iprop((owns (c : Thread nD τ) arg1 fullShare X ∗ owns (c : Thread nD τ) arg2 fullShare C ∗ owns (c : Thread nD τ) arg3 fullShare S
            ∗ owns (c : Thread nD τ) arg4 fullShare O ∗ owns (c : Thread nD τ) arg5 fullShare W)
        ∗ ((owns (c : Thread nD τ) arg1 fullShare X ∗ owns (c : Thread nD τ) arg2 fullShare C ∗ owns (c : Thread nD τ) arg3 fullShare S
            ∗ owns (c : Thread nD τ) arg4 fullShare (bodyVal X C S) ∗ owns (c : Thread nD τ) arg5 fullShare (scaleWords (F := F) S)) -∗ K ⟨⟩))
      ⊢ wp frame (wpE (defs₀ (F := F)) 𝒱₀ (c : Thread nD τ) none) E (body arg1 arg2 arg3 arg4 harg4 arg5) K := by
  have hz : (![0, 0] : Fin 2 → Nat) = fun _ => 0 := funext fun a => by fin_cases a <;> rfl
  have hld : View.ld S (Rect.unit (s := S360x512) ![0, 0] S360x512.size inb_S360x512_S360x512_0_0) = S := by
    funext x; exact congrArg S (funext fun a => Fin.ext (by fin_cases a <;> exact (Nat.zero_add _).trans (Nat.one_mul _)))
  simp only [body, Prog.lift, Prog.bind_op, Prog.bind_ret]
  iintro ⟨⟨H1, H2, H3, H4, H5⟩, Hk⟩
  iapply (wp_load_owns c E arg3 _ _ S _ K) $$ H3
  iintro H3
  iapply (wp_load_owns c E arg5 _ _ W _ K) $$ H5
  iintro H5
  iapply (wp_store_owns c E arg5 hz _ _ _ _ W _ K) $$ H5
  iintro H5
  rw [hld]
  iapply (wp_stepAt arg1 arg2 arg5 c E X C (scaleWords (F := F) S) 0 _ _ K)
  isplitl [H1 H2 H5]
  · isplitl [H1]; · iexact H1
    isplitl [H2]; · iexact H2
    iexact H5
  iintro H
  iapply (wp_tilesFrom arg1 arg2 arg5 c E X C (scaleWords (F := F) S) _ K 44 _)
  isplitl [H]; · iexact H
  iintro ⟨H1, H2, H5⟩
  iapply (wp_load_owns c E arg4 _ _ O _ K) $$ H4
  iintro H4
  iapply (wp_store_owns c E arg4 hz _ _ _ _ O _ K) $$ H4
  iintro H4
  iapply (le_wp_ret _ _ _ _ K)
  iapply Hk
  isplitl [H1]; · iexact H1
  isplitl [H2]; · iexact H2
  isplitl [H3]; · iexact H3
  isplitl [H4]; · iexact H4
  iexact H5

/-- The same of the printed body. -/
theorem wp_kernel (i : grid0.Coords) (harg1 : arg1.IsWhole) (harg2 : arg2.IsWhole) (harg3 : arg3.IsWhole) (harg5 : arg5.IsWhole)
    (c : Dev nD) (E : Set ℕ) (X : Vec F S192x11520 .bf16) (C : Vec F S5760x512 .i8) (S : Vec F S360x512 .i8) (O : Vec F S192x512 .bf16)
    (W : Vec F S360x512 .i32) (K : PUnit → sProp 𝕄) :
    iprop((owns (c : Thread nD τ) arg1 fullShare X ∗ owns (c : Thread nD τ) arg2 fullShare C ∗ owns (c : Thread nD τ) arg3 fullShare S
            ∗ owns (c : Thread nD τ) arg4 fullShare O ∗ owns (c : Thread nD τ) arg5 fullShare W)
        ∗ ((owns (c : Thread nD τ) arg1 fullShare X ∗ owns (c : Thread nD τ) arg2 fullShare C ∗ owns (c : Thread nD τ) arg3 fullShare S
            ∗ owns (c : Thread nD τ) arg4 fullShare (bodyVal X C S) ∗ owns (c : Thread nD τ) arg5 fullShare (scaleWords (F := F) S)) -∗ K ⟨⟩))
      ⊢ wp frame (wpE (defs₀ (F := F)) 𝒱₀ (c : Thread nD τ) none) E
          (cc0_mxfp4_linear i arg1 harg1 arg2 harg2 arg3 harg3 arg4 harg4 arg5 harg5) K := by
  rw [body_eq]
  exact wp_body arg1 arg2 arg3 arg4 harg4 arg5 c E X C S O W K

end Triple

end Cert.Kernel.Body

end
-- ==== Proof.KernelRun.lean ====
/-
  The pipeline's runs.

  The four windows' buffers at a point: `x` whole; the codes and scales of the point's 512 columns, the last point's
  reaching past the arrays' ends, where only the columns inside are fetched and the rest of the buffer holds whatever
  it held; the result's. `body_forget` keeps no record of the result, which is what the frame at any float values
  needs: nothing says of a general matmul that a column of its result depends only on that column of its operand.
-/
module

public import proofs.«01_k».proof.Proof.KernelBody
public import proofs.«01_k».proof.Proof.Gen.Kernel.Frame

@[expose] public section

set_option maxRecDepth 16384

noncomputable section

namespace Cert.Kernel.Body

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The scratch: the scale words. -/
abbrev scM : Memref sig .tc .vmem S360x512 .i32 := Memref.whole cc0_scratch0

/-- The codes' buffer at a point: the block's columns inside the array, `d` past its end; -/
def codesBuf (c : Dev nD) (t : Fin cfg0.N) (d : Vec F S5760x512 .i8) : Vec F S5760x512 .i8 :=
  win0_1.fill (grid0.coords t) d (iblk m c 1 t)
/-- the scales'; -/
def scalesBuf (c : Dev nD) (t : Fin cfg0.N) (d : Vec F S360x512 .i8) : Vec F S360x512 .i8 :=
  win0_2.fill (grid0.coords t) d (iblk m c 2 t)
/-- and what the body leaves in the result's. -/
def outBuf (c : Dev nD) (t : Fin cfg0.N) (d1 : Vec F S5760x512 .i8) (d2 : Vec F S360x512 .i8) : Vec F S192x512 .bf16 :=
  bodyVal (iblk m c 0 t) (codesBuf m c t d1) (scalesBuf m c t d2)

/-- The proof data: each array as the region finds it; after the body the inputs' buffers hold their blocks and the
    result's the body's value, the buffers' columns past the arrays' ends zero; the scratch at anything; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => codesBuf m c t (fun _ => (0#8 : BitVec 8))
    | ⟨2, _⟩ => scalesBuf m c t (fun _ => (0#8 : BitVec 8))
    | ⟨3, _⟩ => outBuf m c t (fun _ => (0#8 : BitVec 8)) (fun _ => (0#8 : BitVec 8))
  Φ _ := Pipeline.ΦA spec0 c
  q _ := fullShare
  owed _ := 0

theorem before_0 (c : Dev nD) (t : Fin cfg0.N) (d) : (dats m 0 c).before (0 : Fin 4) t d = iblk m c 0 t :=
  before0_0_of m (dats m 0 c) rfl (fun _ => rfl) t d
theorem before_1 (c : Dev nD) (t : Fin cfg0.N) (d) : (dats m 0 c).before (1 : Fin 4) t d = codesBuf m c t d := by
  unfold Dat.before; rw [if_pos (fetch0_1 t)]; rfl
theorem before_2 (c : Dev nD) (t : Fin cfg0.N) (d) : (dats m 0 c).before (2 : Fin 4) t d = scalesBuf m c t d := by
  unfold Dat.before; rw [if_pos (fetch0_2 t)]; rfl

/-- The invariant: the scratch owned at some contents, the generator register at some state. -/
theorem PhiA_eq (c : Dev nD) :
    (Pipeline.ΦA spec0 c : sProp 𝕄) = iprop(iprop(∃ d, owns (c : Thread nD τ) scM fullShare d) ∗ (∃ r, prngReg c r)) := by
  unfold Pipeline.ΦA; rw [scopedRest0_eq]; simp only [scM, owns_whole]; try rfl

theorem after_1 (c : Dev nD) (t : Fin cfg0.N) : (dats m 0 c).after 1 t = codesBuf m c t (fun _ => (0#8 : BitVec 8)) := by dsimp only [dats]
theorem after_2 (c : Dev nD) (t : Fin cfg0.N) : (dats m 0 c).after 2 t = scalesBuf m c t (fun _ => (0#8 : BitVec 8)) := by dsimp only [dats]
theorem after_3 (c : Dev nD) (t : Fin cfg0.N) :
    (dats m 0 c).after 3 t = outBuf m c t (fun _ => (0#8 : BitVec 8)) (fun _ => (0#8 : BitVec 8)) := by dsimp only [dats]

/-- An input's buffer is handed back as it came: its block on the columns inside the array, whatever the rest holds. -/
theorem back_1 (c : Dev nD) (t : Fin cfg0.N) (d) :
    (cfg0.win 1).fill (cfg0.grid.coords t) d ((cfg0.win 1).cut (cfg0.grid.coords t) ((dats m 0 c).after 1 t)) = codesBuf m c t d := by
  rw [after_1]; unfold codesBuf; exact congrArg (win0_1.fill (grid0.coords t) d) (win0_1.cut_fill _ _ _)
theorem back_2 (c : Dev nD) (t : Fin cfg0.N) (d) :
    (cfg0.win 2).fill (cfg0.grid.coords t) d ((cfg0.win 2).cut (cfg0.grid.coords t) ((dats m 0 c).after 2 t)) = scalesBuf m c t d := by
  rw [after_2]; unfold scalesBuf; exact congrArg (win0_2.fill (grid0.coords t) d) (win0_2.cut_fill _ _ _)

/-! ## The body's obligation -/

/-- The result's window, forgotten. -/
def forgets : Fin 4 → Bool := fun | 0 => false | 1 => false | 2 => false | 3 => true | ⟨_ + 4, h⟩ => absurd h (Nat.not_lt.2 (Nat.le_add_left _ _))

theorem body_forget (c : Dev nD) : BodyObligationLoose (dats m 0 c) (defs₀ (F := F)) 𝒱₀ () Set.univ forgets := fun t => by
  rw [bigSep_W0, bigSep_W0]
  simp only [forgets]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, PhiA_eq]
  iintro ⟨⟨⟨%W, H5⟩, Hg⟩, Ho, ⟨%d1, H1⟩, ⟨%d2, H2⟩, ⟨%d3, H3⟩, ⟨%d4, H4⟩⟩
  rw [before_0 m c t d1, before_1 m c t d2, before_2 m c t d3]
  iapply (wp_kernel (F := F) (st0_0 t) (st0_1 t) (st0_2 t) (st0_3 t) (hstage0_3 ((cfg0.slots t 3).cast nbuf0_3)) scM (grid0.coords t)
    (hstage0_0 ((cfg0.slots t 0).cast nbuf0_0)) (hstage0_1 ((cfg0.slots t 1).cast nbuf0_1)) (hstage0_2 ((cfg0.slots t 2).cast nbuf0_2))
    (Memref.isWhole_whole _) c Set.univ
    (iblk m c 0 t) (codesBuf m c t d2) (scalesBuf m c t d3) d4 W _)
  isplitl [H1 H2 H3 H4 H5]
  · isplitl [H1]; · iexact H1
    isplitl [H2]; · iexact H2
    isplitl [H3]; · iexact H3
    isplitl [H4]; · iexact H4
    iexact H5
  iintro ⟨H1, H2, H3, H4, H5⟩
  isplitl [H5 Hg]
  · isplitl [H5]
    · iexists _; iexact H5
    iexact Hg
  isplitl [Ho]; · iexact Ho
  isplitl [H1]; · iexact H1
  isplitl [H2]
  · iexists d2
    rw [back_1]
    iexact H2
  isplitl [H3]
  · iexists d3
    rw [back_2]
    iexact H3
  iexists _; iexact H4

/-! ## The run, the result forgotten -/

set_option backward.isDefEq.respectTransparency.types false in
/-- From any memory with zero counters the program runs, its three arguments end as they were and every counter at zero. -/
theorem run_forget : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  Pipeline.θ_run_frame_forget cfgs (dats m) (0 : Fin 1) launch0 defs₀ 𝒱₀ forgets m ρ main
    (hbody := body_forget m) (hshare := fun c => (dats m 0 c).share_full fun _ => rfl) (howed := fun _ _ => rfl)
    (V := V m) (hmain := hmain m 𝒱₀) (hA := fun _ _ => rfl) (hΦ := fun _ _ => rfl)
    (Q' := fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0)
    (hQ' := fun r h => ⟨fun c =>
      ⟨((h.1 c).2 main_arg0 (Pipeline.mem_restRefs_of main_arg0 (by decide) (by decide))).trans (V_main_arg0 m c),
       (h.1.arr_in c (1 : Fin 4) rfl).trans (V_main_arg1 m c),
       (h.1.arr_in c (2 : Fin 4) rfl).trans (V_main_arg2 m c)⟩, h.2⟩)

end Cert.Kernel.Body

end
-- ==== Proof.Body.lean ====
/-
  The kernel's body as a recursion.

  The printed body is one straight run of some thirteen thousand statements: forty-five K tiles of 256 columns of
  `x`, each of eight blocks of thirty-two weights. Here the same program is written once for a symbolic K tile
  (`stepAt`) and run over the tiles by recursion (`tilesFrom`); `body_eq` says the printed body is that program. It
  then has ONE Hoare triple (`wp_body`), by induction over the tiles: from any contents `X`, `C`, `S` of the three
  input buffers the result's buffer ends holding `bodyVal X C S`, for any float values.
-/
module

public import proofs.«01_k».proof.Proof.Gen.KernelIdeal
public import Idealize.ShloMosaic.Lib.Pipeline.FrameBody
public import Idealize.ShloMosaic.Lib.Pipeline.Regions
public import Idealize.ShloMosaic.Lib.Tactic

@[expose] public section

noncomputable section

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The rectangles the body loads -/

theorem inb_scale (r : Nat) (h : r < 360) (a : Fin 2) : (![r, 0] : Fin 2 → Nat) a + S1x512.size a ≤ S360x512.size a := by
  fin_cases a
  · show r + 1 ≤ 360; omega
  · show 0 + 512 ≤ 512; omega

theorem inb_codes (r : Nat) (h : r + 32 ≤ 5760) (a : Fin 2) : (![r, 0] : Fin 2 → Nat) a + S32x512.size a ≤ S5760x512.size a := by
  fin_cases a
  · exact h
  · show 0 + 512 ≤ 512; omega

theorem inb_x (k : Nat) (h : k + 256 ≤ 11520) (a : Fin 2) : (![0, k] : Fin 2 → Nat) a + S192x256.size a ≤ S192x11520.size a := by
  fin_cases a
  · show 0 + 192 ≤ 192; omega
  · exact h

theorem slices_half (p : Nat) (h : p + 32 ≤ 64) : S64x512.Slices ![p, 0] S32x512 :=
  ⟨rfl, fun a => by
    fin_cases a
    · exact h
    · show 0 + 512 ≤ 512; omega⟩

/-- Row `r` of the scale words; -/
abbrev scaleRect (r : Nat) (h : r < 360) : Rect S360x512 := Rect.unit (s := S360x512) ![r, 0] S1x512.size (inb_scale r h)
/-- thirty-two rows of codes from row `r`; -/
abbrev codesRect (r : Nat) (h : r + 32 ≤ 5760) : Rect S5760x512 := Rect.unit (s := S5760x512) ![r, 0] S32x512.size (inb_codes r h)
/-- 256 columns of `x` from column `k`. -/
abbrev xRect (k : Nat) (h : k + 256 ≤ 11520) : Rect S192x11520 := Rect.unit (s := S192x11520) ![0, k] S192x256.size (inb_x k h)

/-! ## What the body computes -/

/-- The scale bytes as words holding the scale's bfloat16 bits in both halves. -/
def scaleWords (s : Vec F S360x512 .i8) : IVec S360x512 32 :=
  shapeCast S360x512
    (ori (shli (extui 32 s natLt_8_32) (broadcast S360x512 7#32)) (shli (extui 32 s natLt_8_32) (broadcast S360x512 23#32)))
    shapeCasts_S360x512_S360x512

/-- A row of those words as sixteen rows of bfloat16 scales. -/
def scaleRows (s : Vec F S1x512 .i32) : FVec F S16x512 .bf16 :=
  bitcastToFloat .bf16 (bitcast S16x512 16 (broadcastTo S8x512 (shapeCast S1x512 s shapeCasts_S1x512_S1x512) broadcasts_S1x512_S8x512)
    bitcasts_S8x512_w32_S16x512_w16)

/-- Thirty-two rows of codes, each the two rows of four-bit floats its nibbles are. -/
def decode (c : Vec F S32x512 .i8) : FVec F S64x512 .bf16 :=
  mulf
    (extf .bf16 (bitcastToFloat .fp8e4m3 (trunci 8 (bitcast S64x512 16
      (ori
        (andi (muli (extui 32 c natLt_8_32) (broadcast S32x512 16388#32)) (broadcast S32x512 1835036#32))
        (andi (muli (extui 32 c natLt_8_32) (broadcast S32x512 65552#32)) (broadcast S32x512 8388736#32)))
      bitcasts_S32x512_w32_S64x512_w16) natLt_8_16)) bitsLt_fp8e4m3_bf16)
    (broadcast S64x512 (Scalar.ofBits (F := F) .bf16 0x4280#16))

/-- The first sixteen rows of a block of weights: the decoded rows from `p`, scaled; -/
def wLo (p : Nat) (hp : p + 32 ≤ 64) (s : Vec F S1x512 .i32) (c : Vec F S32x512 .i8) : FVec F S16x512 .bf16 :=
  mulf (extractStridedSlice S16x512 ![0, 0] (extractStridedSlice S32x512 ![p, 0] (decode c) (slices_half p hp)) slices_S32x512_o0_0_S16x512)
    (scaleRows s)
/-- and its last sixteen. -/
def wHi (p : Nat) (hp : p + 32 ≤ 64) (s : Vec F S1x512 .i32) (c : Vec F S32x512 .i8) : FVec F S16x512 .bf16 :=
  mulf (extractStridedSlice S16x512 ![16, 0] (extractStridedSlice S32x512 ![p, 0] (decode c) (slices_half p hp)) slices_S32x512_o16_0_S16x512)
    (scaleRows s)

theorem h0 : 0 + 32 ≤ 64 := by decide
theorem h32 : 32 + 32 ≤ 64 := by decide

/-- A K tile's product: 256 columns of `x` by the tile's eight blocks of weights, block by block. -/
def prodTile (x : Vec F S192x256 .bf16) (s0 : Vec F S1x512 .i32) (c0 : Vec F S32x512 .i8) (s1 : Vec F S1x512 .i32) (c1 : Vec F S32x512 .i8)
    (s2 : Vec F S1x512 .i32) (c2 : Vec F S32x512 .i8) (s3 : Vec F S1x512 .i32) (c3 : Vec F S32x512 .i8)
    (s4 : Vec F S1x512 .i32) (c4 : Vec F S32x512 .i8) (s5 : Vec F S1x512 .i32) (c5 : Vec F S32x512 .i8)
    (s6 : Vec F S1x512 .i32) (c6 : Vec F S32x512 .i8) (s7 : Vec F S1x512 .i32) (c7 : Vec F S32x512 .i8) : FVec F S192x512 .f32 :=
  matmul dot_S192x256_S256x512_S192x512_1_0_0_1_n_n none (shapeCast S192x256 x shapeCasts_S192x256_S192x256)
    (concatenate S256x512 0 [⟨S16x512, wLo 0 h0 s0 c0⟩, ⟨S16x512, wHi 0 h0 s0 c0⟩, ⟨S16x512, wLo 32 h32 s1 c1⟩, ⟨S16x512, wHi 32 h32 s1 c1⟩,
        ⟨S16x512, wLo 0 h0 s2 c2⟩, ⟨S16x512, wHi 0 h0 s2 c2⟩, ⟨S16x512, wLo 32 h32 s3 c3⟩, ⟨S16x512, wHi 32 h32 s3 c3⟩,
        ⟨S16x512, wLo 0 h0 s4 c4⟩, ⟨S16x512, wHi 0 h0 s4 c4⟩, ⟨S16x512, wLo 32 h32 s5 c5⟩, ⟨S16x512, wHi 32 h32 s5 c5⟩,
        ⟨S16x512, wLo 0 h0 s6 c6⟩, ⟨S16x512, wHi 0 h0 s6 c6⟩, ⟨S16x512, wLo 32 h32 s7 c7⟩, ⟨S16x512, wHi 32 h32 s7 c7⟩]
      concatenates_S16x512_S16x512_S16x512_S16x512_S16x512_S16x512_S16x512_S16x512_S16x512_S16x512_S16x512_S16x512_S16x512_S16x512_S16x512_S16x512_S256x512_d0)
    (constant S192x512 .f32 0x00000000#32)

/-! ## The body, a tile at a time -/

section Program

variable (arg1 : Memref sig .tc .vmem S192x11520 .bf16) (arg2 : Memref sig .tc .vmem S5760x512 .i8)
  (arg3 : Memref sig .tc .vmem S360x512 .i8) (arg4 : Memref sig .tc .vmem S192x512 .bf16) (harg4 : arg4.IsWhole)
  (arg5 : Memref sig .tc .vmem S360x512 .i32)

/-- The effects of the kernel's programs. -/
abbrev E₀ (F : FTy → Type) [FloatOps F] := TpuEff nD τ sig (Elt F) Λ₀ .tc

def loadScale (r : Nat) (h : r < 360) : Prog (E₀ F) (Vec F S1x512 .i32) :=
  Prog.lift (.load arg5 (scaleRect r h).toLoadRect (View.loadsAt_vmem h_S1x512))
def loadCodes (r : Nat) (h : r + 32 ≤ 5760) : Prog (E₀ F) (Vec F S32x512 .i8) :=
  Prog.lift (.load arg2 (codesRect r h).toLoadRect (View.loadsAt_vmem h_S32x512))
def loadX (k : Nat) (h : k + 256 ≤ 11520) : Prog (E₀ F) (Vec F S192x256 .bf16) :=
  Prog.lift (.load arg1 (xRect k h).toLoadRect (View.loadsAt_vmem h_S192x256))

/-- K tile `k`: its eight blocks' scales and codes, its columns of `x`, their product. -/
def stepAt (k : Nat) (hk : k < 45) : Prog (E₀ F) (FVec F S192x512 .f32) := do
  let s0 ← loadScale arg5 (8 * k) (by omega)
  let c0 ← loadCodes arg2 (128 * k) (by omega)
  let s1 ← loadScale arg5 (8 * k + 1) (by omega)
  let c1 ← loadCodes arg2 (128 * k) (by omega)
  let s2 ← loadScale arg5 (8 * k + 2) (by omega)
  let c2 ← loadCodes arg2 (128 * k + 32) (by omega)
  let s3 ← loadScale arg5 (8 * k + 3) (by omega)
  let c3 ← loadCodes arg2 (128 * k + 32) (by omega)
  let s4 ← loadScale arg5 (8 * k + 4) (by omega)
  let c4 ← loadCodes arg2 (128 * k + 64) (by omega)
  let s5 ← loadScale arg5 (8 * k + 5) (by omega)
  let c5 ← loadCodes arg2 (128 * k + 64) (by omega)
  let s6 ← loadScale arg5 (8 * k + 6) (by omega)
  let c6 ← loadCodes arg2 (128 * k + 96) (by omega)
  let s7 ← loadScale arg5 (8 * k + 7) (by omega)
  let c7 ← loadCodes arg2 (128 * k + 96) (by omega)
  let x ← loadX arg1 (256 * k) (by omega)
  pure (prodTile x s0 c0 s1 c1 s2 c2 s3 c3 s4 c4 s5 c5 s6 c6 s7 c7)

/-- The last `n` K tiles, each added to the accumulator. -/
def tilesFrom : Nat → FVec F S192x512 .f32 → Prog (E₀ F) (FVec F S192x512 .f32)
  | 0, acc => pure acc
  | n + 1, acc => do
    let p ← stepAt arg1 arg2 arg5 (44 - n) (by omega)
    tilesFrom n (addf acc p)

/-- The body: the scale words stored, the K tiles summed, the sum rounded and stored. -/
def body : Prog (E₀ F) PUnit := do
  let s : Vec F S360x512 .i8 ← Prog.lift (.load arg3 (Rect.unit (s := S360x512) ![0, 0] S360x512.size inb_S360x512_S360x512_0_0).toLoadRect (View.loadsAt_vmem h_S360x512))
  let _ : Vec F S360x512 .i32 ← Prog.lift (.load arg5 (Rect.unit (s := S360x512) ![0, 0] S360x512.size inb_S360x512_S360x512_0_0).toLoadRect (View.loadsAt_vmem h_S360x512))
  Prog.lift (.store arg5 (Rect.unit (s := S360x512) ![0, 0] S360x512.size inb_S360x512_S360x512_0_0) (scaleWords (F := F) s) Finset.univ (View.stores_vmem_bits_univ h_S360x512 rfl) (.inl rfl))
  let p ← stepAt arg1 arg2 arg5 0 (by omega)
  let y ← tilesFrom arg1 arg2 arg5 44 p
  let _ : Vec F S192x512 .bf16 ← Prog.lift (.load arg4 (Rect.unit (s := S192x512) ![0, 0] S192x512.size inb_S192x512_S192x512_0_0).toLoadRect (View.loadsAt_vmem h_S192x512))
  Prog.lift (.store arg4 (Rect.unit (s := S192x512) ![0, 0] S192x512.size inb_S192x512_S192x512_0_0) (truncf .bf16 y bitsLt_bf16_f32 : FVec F S192x512 .bf16) Finset.univ (View.stores_vmem h_S192x512 (harg4.storeExact_slice rfl _ packedbf16_S192x512_S192x512_0_0) (fun _ => rfl)) (.inl rfl))
  pure ⟨⟩

end Program

/-- The printed body is that program. -/
theorem body_eq (i : grid0.Coords) (arg1 : Memref sig .tc .vmem S192x11520 .bf16) (harg1 : arg1.IsWhole) (arg2 : Memref sig .tc .vmem S5760x512 .i8) (harg2 : arg2.IsWhole)
    (arg3 : Memref sig .tc .vmem S360x512 .i8) (harg3 : arg3.IsWhole) (arg4 : Memref sig .tc .vmem S192x512 .bf16) (harg4 : arg4.IsWhole)
    (arg5 : Memref sig .tc .vmem S360x512 .i32) (harg5 : arg5.IsWhole) :
    cc0_mxfp4_linear (F := F) i arg1 harg1 arg2 harg2 arg3 harg3 arg4 harg4 arg5 harg5 = body arg1 arg2 arg3 arg4 harg4 arg5 := by
  chain_rfl

/-! ## Its value -/

/-- K tile `k`'s product, of what the three buffers hold. -/
def tileVal (X : Vec F S192x11520 .bf16) (C : Vec F S5760x512 .i8) (S : Vec F S360x512 .i32) (k : Nat) (hk : k < 45) : FVec F S192x512 .f32 :=
  prodTile (View.ld X (xRect (256 * k) (by omega)))
    (View.ld S (scaleRect (8 * k) (by omega))) (View.ld C (codesRect (128 * k) (by omega)))
    (View.ld S (scaleRect (8 * k + 1) (by omega))) (View.ld C (codesRect (128 * k) (by omega)))
    (View.ld S (scaleRect (8 * k + 2) (by omega))) (View.ld C (codesRect (128 * k + 32) (by omega)))
    (View.ld S (scaleRect (8 * k + 3) (by omega))) (View.ld C (codesRect (128 * k + 32) (by omega)))
    (View.ld S (scaleRect (8 * k + 4) (by omega))) (View.ld C (codesRect (128 * k + 64) (by omega)))
    (View.ld S (scaleRect (8 * k + 5) (by omega))) (View.ld C (codesRect (128 * k + 64) (by omega)))
    (View.ld S (scaleRect (8 * k + 6) (by omega))) (View.ld C (codesRect (128 * k + 96) (by omega)))
    (View.ld S (scaleRect (8 * k + 7) (by omega))) (View.ld C (codesRect (128 * k + 96) (by omega)))

/-- The last `n` tiles' products added to `acc`, in order. -/
def sumFrom (X : Vec F S192x11520 .bf16) (C : Vec F S5760x512 .i8) (S : Vec F S360x512 .i32) : Nat → FVec F S192x512 .f32 → FVec F S192x512 .f32
  | 0, acc => acc
  | n + 1, acc => sumFrom X C S n (addf acc (tileVal X C S (44 - n) (by omega)))

/-- What the body leaves in the result's buffer. -/
def bodyVal (X : Vec F S192x11520 .bf16) (C : Vec F S5760x512 .i8) (S : Vec F S360x512 .i8) : FVec F S192x512 .bf16 :=
  truncf .bf16 (sumFrom X C (scaleWords (F := F) S) 44 (tileVal X C (scaleWords (F := F) S) 0 (by omega))) bitsLt_bf16_f32

/-! ## Its triple -/

section Triple

local notation "𝕄" => MT nD τ sig Unit (Elt F) ℕ (UR sig nD τ) ℕ

/-- The kernel's variants: none. -/
abbrev 𝒱₀ : Variants := Variants.none

/-- A load at the head of a program, of a buffer owned at known contents. -/
theorem wp_load_owns (c : Dev nD) (E : Set ℕ) {α : Type} {sp : CoreSpace} {s : Shape} {e : EltTy} (mr : Memref sig .tc sp s e) (r : Rect s)
    (hl : mr.view.LoadsAt r.toLoadRect) (X : s.Idx → Elt F e) (k : (r.shape.Idx → Elt F e) → Prog (E₀ F) α) (Q : α → sProp 𝕄) :
    owns (c : Thread nD τ) mr fullShare X
      ⊢ iprop((owns (c : Thread nD τ) mr fullShare X -∗ wp frame (wpE (defs₀ (F := F)) 𝒱₀ (c : Thread nD τ) none) E (k (View.ld X r)) Q)
        -∗ wp frame (wpE (defs₀ (F := F)) 𝒱₀ (c : Thread nD τ) none) E (.op (.load mr r.toLoadRect hl) k) Q) := by
  unfold owns
  iintro ⟨%f, %hf, H⟩ Hk
  subst hf
  iapply (wp_load (defs := defs₀ (F := F)) 𝒱₀ (c : Thread nD τ) none E (m := mr) (r := r.toLoadRect) (hl := hl) (k := k) (q := fullShare) (f := f)
    (View.setOn_subset_set _ _)) $$ H
  iintro H
  iapply Hk
  iexists f; isplitr; · ipureintro; rfl
  iexact H

/-- An unmasked store of a whole buffer at the head of a program. -/
theorem wp_store_owns (c : Dev nD) (E : Set ℕ) {α : Type} {sp : CoreSpace} {s : Shape} {e : EltTy} (mr : Memref sig .tc sp s e) {off : Fin s.rank → Nat}
    (hoff : off = fun _ => 0) (inb : ∀ a, off a + s.size a ≤ s.size a) (w : s.Idx → Elt F e)
    (hx : (mr.access (Rect.unit (s := s) off s.size inb)).Stores Finset.univ)
    (hm : (Finset.univ : Finset (Rect.unit (s := s) off s.size inb).shape.Idx) = Finset.univ ∨ ∀ a, (Rect.unit (s := s) off s.size inb).stride a = 1)
    (X : s.Idx → Elt F e) (k : PUnit → Prog (E₀ F) α) (Q : α → sProp 𝕄) :
    owns (c : Thread nD τ) mr fullShare X
      ⊢ iprop((owns (c : Thread nD τ) mr fullShare w -∗ wp frame (wpE (defs₀ (F := F)) 𝒱₀ (c : Thread nD τ) none) E (k ⟨⟩) Q)
        -∗ wp frame (wpE (defs₀ (F := F)) 𝒱₀ (c : Thread nD τ) none) E (.op (.store mr (Rect.unit (s := s) off s.size inb) w Finset.univ hx hm) k) Q) := by
  unfold owns
  iintro ⟨%f, %hf, H⟩ Hk
  iapply (wp_store (defs := defs₀ (F := F)) 𝒱₀ (c : Thread nD τ) none E (m := mr) (r := Rect.unit (s := s) off s.size inb) (w := w) (Mk := Finset.univ)
    (hx := hx) (hm := hm) (k := k) (S := mr.view.set) (f := f) (View.setOn_slice_subset_set _ _ _)) $$ H
  iintro H
  iapply Hk
  iexists ((mr.access (Rect.unit (s := s) off s.size inb)).write (Elt F) f w Finset.univ)
  isplitr
  · ipureintro
    subst hoff
    funext x
    have hx' : (Rect.unit (s := s) (fun _ => 0) s.size inb).emb x = x := by
      funext a; exact Fin.ext (by show 0 + 1 * (x a).val = (x a).val; omega)
    have := View.read_slice_write_emb (Val := Elt F) (v := mr.view) (Rect.unit (s := s) (fun _ => 0) s.size inb) f w (M := Finset.univ) (x := x) (Finset.mem_univ _)
    rw [hx'] at this
    exact this
  iexact H

variable (arg1 : Memref sig .tc .vmem S192x11520 .bf16) (arg2 : Memref sig .tc .vmem S5760x512 .i8)
  (arg3 : Memref sig .tc .vmem S360x512 .i8) (arg4 : Memref sig .tc .vmem S192x512 .bf16) (harg4 : arg4.IsWhole)
  (arg5 : Memref sig .tc .vmem S360x512 .i32)

/-- One K tile: the buffers as they were, the tile's product handed on. -/
theorem wp_stepAt (c : Dev nD) (E : Set ℕ) (X : Vec F S192x11520 .bf16) (C : Vec F S5760x512 .i8) (S : Vec F S360x512 .i32) (k : Nat) (hk : k < 45)
    {α : Type} (K : FVec F S192x512 .f32 → Prog (E₀ F) α) (Q : α → sProp 𝕄) :
    iprop((owns (c : Thread nD τ) arg1 fullShare X ∗ owns (c : Thread nD τ) arg2 fullShare C ∗ owns (c : Thread nD τ) arg5 fullShare S)
        ∗ ((owns (c : Thread nD τ) arg1 fullShare X ∗ owns (c : Thread nD τ) arg2 fullShare C ∗ owns (c : Thread nD τ) arg5 fullShare S)
            -∗ wp frame (wpE (defs₀ (F := F)) 𝒱₀ (c : Thread nD τ) none) E (K (tileVal X C S k hk)) Q))
      ⊢ wp frame (wpE (defs₀ (F := F)) 𝒱₀ (c : Thread nD τ) none) E (stepAt arg1 arg2 arg5 k hk >>= K) Q := by
  simp only [stepAt, loadScale, loadCodes, loadX, Prog.lift, Prog.bind_op, Prog.bind_ret, Prog.bind_assoc]
  iintro ⟨⟨H1, H2, H5⟩, Hk⟩
  iapply (wp_load_owns c E arg5 _ _ S _ Q) $$ H5
  iintro H5
  iapply (wp_load_owns c E arg2 _ _ C _ Q) $$ H2
  iintro H2
  iapply (wp_load_owns c E arg5 _ _ S _ Q) $$ H5
  iintro H5
  iapply (wp_load_owns c E arg2 _ _ C _ Q) $$ H2
  iintro H2
  iapply (wp_load_owns c E arg5 _ _ S _ Q) $$ H5
  iintro H5
  iapply (wp_load_owns c E arg2 _ _ C _ Q) $$ H2
  iintro H2
  iapply (wp_load_owns c E arg5 _ _ S _ Q) $$ H5
  iintro H5
  iapply (wp_load_owns c E arg2 _ _ C _ Q) $$ H2
  iintro H2
  iapply (wp_load_owns c E arg5 _ _ S _ Q) $$ H5
  iintro H5
  iapply (wp_load_owns c E arg2 _ _ C _ Q) $$ H2
  iintro H2
  iapply (wp_load_owns c E arg5 _ _ S _ Q) $$ H5
  iintro H5
  iapply (wp_load_owns c E arg2 _ _ C _ Q) $$ H2
  iintro H2
  iapply (wp_load_owns c E arg5 _ _ S _ Q) $$ H5
  iintro H5
  iapply (wp_load_owns c E arg2 _ _ C _ Q) $$ H2
  iintro H2
  iapply (wp_load_owns c E arg5 _ _ S _ Q) $$ H5
  iintro H5
  iapply (wp_load_owns c E arg2 _ _ C _ Q) $$ H2
  iintro H2
  iapply (wp_load_owns c E arg1 _ _ X _ Q) $$ H1
  iintro H1
  iapply Hk
  isplitl [H1]; · iexact H1
  isplitl [H2]; · iexact H2
  iexact H5

/-- The last `n` tiles. -/
theorem wp_tilesFrom (c : Dev nD) (E : Set ℕ) (X : Vec F S192x11520 .bf16) (C : Vec F S5760x512 .i8) (S : Vec F S360x512 .i32)
    {α : Type} (K : FVec F S192x512 .f32 → Prog (E₀ F) α) (Q : α → sProp 𝕄) (n : Nat) : ∀ acc : FVec F S192x512 .f32,
    iprop((owns (c : Thread nD τ) arg1 fullShare X ∗ owns (c : Thread nD τ) arg2 fullShare C ∗ owns (c : Thread nD τ) arg5 fullShare S)
        ∗ ((owns (c : Thread nD τ) arg1 fullShare X ∗ owns (c : Thread nD τ) arg2 fullShare C ∗ owns (c : Thread nD τ) arg5 fullShare S)
            -∗ wp frame (wpE (defs₀ (F := F)) 𝒱₀ (c : Thread nD τ) none) E (K (sumFrom X C S n acc)) Q))
      ⊢ wp frame (wpE (defs₀ (F := F)) 𝒱₀ (c : Thread nD τ) none) E (tilesFrom arg1 arg2 arg5 n acc >>= K) Q := by
  induction n with
  | zero =>
    intro acc
    iintro ⟨H, Hk⟩
    iapply Hk $$ H
  | succ n ih =>
    intro acc
    show _ ⊢ wp _ _ _ ((stepAt arg1 arg2 arg5 (44 - n) _ >>= fun p => tilesFrom arg1 arg2 arg5 n (addf acc p)) >>= K) Q
    rw [Prog.bind_assoc]
    refine BIBase.Entails.trans ?_ (wp_stepAt arg1 arg2 arg5 c E X C S (44 - n) (by omega) _ Q)
    iintro ⟨H, Hk⟩
    isplitl [H]; · iexact H
    iintro H
    iapply (ih _)
    isplitl [H]; · iexact H
    iexact Hk

/-- The body: the three input buffers as they were, the result's holding the body's value, the scratch whatever
    it holds. -/
theorem wp_body (c : Dev nD) (E : Set ℕ) (X : Vec F S192x11520 .bf16) (C : Vec F S5760x512 .i8) (S : Vec F S360x512 .i8) (O : Vec F S192x512 .bf16)
    (W : Vec F S360x512 .i32) (K : PUnit → sProp 𝕄) :
    iprop((owns (c : Thread nD τ) arg1 fullShare X ∗ owns (c : Thread nD τ) arg2 fullShare C ∗ owns (c : Thread nD τ) arg3 fullShare S
            ∗ owns (c : Thread nD τ) arg4 fullShare O ∗ owns (c : Thread nD τ) arg5 fullShare W)
        ∗ ((owns (c : Thread nD τ) arg1 fullShare X ∗ owns (c : Thread nD τ) arg2 fullShare C ∗ owns (c : Thread nD τ) arg3 fullShare S
            ∗ owns (c : Thread nD τ) arg4 fullShare (bodyVal X C S) ∗ owns (c : Thread nD τ) arg5 fullShare (scaleWords (F := F) S)) -∗ K ⟨⟩))
      ⊢ wp frame (wpE (defs₀ (F := F)) 𝒱₀ (c : Thread nD τ) none) E (body arg1 arg2 arg3 arg4 harg4 arg5) K := by
  have hz : (![0, 0] : Fin 2 → Nat) = fun _ => 0 := funext fun a => by fin_cases a <;> rfl
  have hld : View.ld S (Rect.unit (s := S360x512) ![0, 0] S360x512.size inb_S360x512_S360x512_0_0) = S := by
    funext x; exact congrArg S (funext fun a => Fin.ext (by fin_cases a <;> exact (Nat.zero_add _).trans (Nat.one_mul _)))
  simp only [body, Prog.lift, Prog.bind_op, Prog.bind_ret]
  iintro ⟨⟨H1, H2, H3, H4, H5⟩, Hk⟩
  iapply (wp_load_owns c E arg3 _ _ S _ K) $$ H3
  iintro H3
  iapply (wp_load_owns c E arg5 _ _ W _ K) $$ H5
  iintro H5
  iapply (wp_store_owns c E arg5 hz _ _ _ _ W _ K) $$ H5
  iintro H5
  rw [hld]
  iapply (wp_stepAt arg1 arg2 arg5 c E X C (scaleWords (F := F) S) 0 _ _ K)
  isplitl [H1 H2 H5]
  · isplitl [H1]; · iexact H1
    isplitl [H2]; · iexact H2
    iexact H5
  iintro H
  iapply (wp_tilesFrom arg1 arg2 arg5 c E X C (scaleWords (F := F) S) _ K 44 _)
  isplitl [H]; · iexact H
  iintro ⟨H1, H2, H5⟩
  iapply (wp_load_owns c E arg4 _ _ O _ K) $$ H4
  iintro H4
  iapply (wp_store_owns c E arg4 hz _ _ _ _ O _ K) $$ H4
  iintro H4
  iapply (le_wp_ret _ _ _ _ K)
  iapply Hk
  isplitl [H1]; · iexact H1
  isplitl [H2]; · iexact H2
  isplitl [H3]; · iexact H3
  isplitl [H4]; · iexact H4
  iexact H5

/-- The same of the printed body. -/
theorem wp_kernel (i : grid0.Coords) (harg1 : arg1.IsWhole) (harg2 : arg2.IsWhole) (harg3 : arg3.IsWhole) (harg5 : arg5.IsWhole)
    (c : Dev nD) (E : Set ℕ) (X : Vec F S192x11520 .bf16) (C : Vec F S5760x512 .i8) (S : Vec F S360x512 .i8) (O : Vec F S192x512 .bf16)
    (W : Vec F S360x512 .i32) (K : PUnit → sProp 𝕄) :
    iprop((owns (c : Thread nD τ) arg1 fullShare X ∗ owns (c : Thread nD τ) arg2 fullShare C ∗ owns (c : Thread nD τ) arg3 fullShare S
            ∗ owns (c : Thread nD τ) arg4 fullShare O ∗ owns (c : Thread nD τ) arg5 fullShare W)
        ∗ ((owns (c : Thread nD τ) arg1 fullShare X ∗ owns (c : Thread nD τ) arg2 fullShare C ∗ owns (c : Thread nD τ) arg3 fullShare S
            ∗ owns (c : Thread nD τ) arg4 fullShare (bodyVal X C S) ∗ owns (c : Thread nD τ) arg5 fullShare (scaleWords (F := F) S)) -∗ K ⟨⟩))
      ⊢ wp frame (wpE (defs₀ (F := F)) 𝒱₀ (c : Thread nD τ) none) E
          (cc0_mxfp4_linear i arg1 harg1 arg2 harg2 arg3 harg3 arg4 harg4 arg5 harg5) K := by
  rw [body_eq]
  exact wp_body arg1 arg2 arg3 arg4 harg4 arg5 c E X C S O W K

end Triple

end Cert.KernelIdeal.Body

end
-- ==== Proof.Run.lean ====
/-
  The pipeline's runs.

  The four windows' buffers at a point: `x` whole; the codes and scales of the point's 512 columns, the last point's
  reaching past the arrays' ends, where only the columns inside are fetched and the rest of the buffer holds whatever
  it held; the result's. `body_forget` keeps no record of the result, which is what the frame at any float values
  needs: nothing says of a general matmul that a column of its result depends only on that column of its operand.
  (Over the reals it does, and `Exact.lean` keeps the result.)
-/
module

public import proofs.«01_k».proof.Proof.Body
public import proofs.«01_k».proof.Proof.Gen.KernelIdeal.Frame

@[expose] public section

set_option maxRecDepth 16384

noncomputable section

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The scratch: the scale words. -/
abbrev scM : Memref sig .tc .vmem S360x512 .i32 := Memref.whole cc0_scratch0

/-- The codes' buffer at a point: the block's columns inside the array, `d` past its end; -/
def codesBuf (c : Dev nD) (t : Fin cfg0.N) (d : Vec F S5760x512 .i8) : Vec F S5760x512 .i8 :=
  win0_1.fill (grid0.coords t) d (iblk m c 1 t)
/-- the scales'; -/
def scalesBuf (c : Dev nD) (t : Fin cfg0.N) (d : Vec F S360x512 .i8) : Vec F S360x512 .i8 :=
  win0_2.fill (grid0.coords t) d (iblk m c 2 t)
/-- and what the body leaves in the result's. -/
def outBuf (c : Dev nD) (t : Fin cfg0.N) (d1 : Vec F S5760x512 .i8) (d2 : Vec F S360x512 .i8) : Vec F S192x512 .bf16 :=
  bodyVal (iblk m c 0 t) (codesBuf m c t d1) (scalesBuf m c t d2)

/-- The proof data: each array as the region finds it; after the body the inputs' buffers hold their blocks and the
    result's the body's value, the buffers' columns past the arrays' ends zero; the scratch at anything; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => codesBuf m c t (fun _ => (0#8 : BitVec 8))
    | ⟨2, _⟩ => scalesBuf m c t (fun _ => (0#8 : BitVec 8))
    | ⟨3, _⟩ => outBuf m c t (fun _ => (0#8 : BitVec 8)) (fun _ => (0#8 : BitVec 8))
  Φ _ := Pipeline.ΦA spec0 c
  q _ := fullShare
  owed _ := 0

theorem before_0 (c : Dev nD) (t : Fin cfg0.N) (d) : (dats m 0 c).before (0 : Fin 4) t d = iblk m c 0 t :=
  before0_0_of m (dats m 0 c) rfl (fun _ => rfl) t d
theorem before_1 (c : Dev nD) (t : Fin cfg0.N) (d) : (dats m 0 c).before (1 : Fin 4) t d = codesBuf m c t d := by
  unfold Dat.before; rw [if_pos (fetch0_1 t)]; rfl
theorem before_2 (c : Dev nD) (t : Fin cfg0.N) (d) : (dats m 0 c).before (2 : Fin 4) t d = scalesBuf m c t d := by
  unfold Dat.before; rw [if_pos (fetch0_2 t)]; rfl

/-- The invariant: the scratch owned at some contents, the generator register at some state. -/
theorem PhiA_eq (c : Dev nD) :
    (Pipeline.ΦA spec0 c : sProp 𝕄) = iprop(iprop(∃ d, owns (c : Thread nD τ) scM fullShare d) ∗ (∃ r, prngReg c r)) := by
  unfold Pipeline.ΦA; rw [scopedRest0_eq]; simp only [scM, owns_whole]; try rfl

theorem after_1 (c : Dev nD) (t : Fin cfg0.N) : (dats m 0 c).after 1 t = codesBuf m c t (fun _ => (0#8 : BitVec 8)) := by dsimp only [dats]
theorem after_2 (c : Dev nD) (t : Fin cfg0.N) : (dats m 0 c).after 2 t = scalesBuf m c t (fun _ => (0#8 : BitVec 8)) := by dsimp only [dats]
theorem after_3 (c : Dev nD) (t : Fin cfg0.N) :
    (dats m 0 c).after 3 t = outBuf m c t (fun _ => (0#8 : BitVec 8)) (fun _ => (0#8 : BitVec 8)) := by dsimp only [dats]

/-- An input's buffer is handed back as it came: its block on the columns inside the array, whatever the rest holds. -/
theorem back_1 (c : Dev nD) (t : Fin cfg0.N) (d) :
    (cfg0.win 1).fill (cfg0.grid.coords t) d ((cfg0.win 1).cut (cfg0.grid.coords t) ((dats m 0 c).after 1 t)) = codesBuf m c t d := by
  rw [after_1]; unfold codesBuf; exact congrArg (win0_1.fill (grid0.coords t) d) (win0_1.cut_fill _ _ _)
theorem back_2 (c : Dev nD) (t : Fin cfg0.N) (d) :
    (cfg0.win 2).fill (cfg0.grid.coords t) d ((cfg0.win 2).cut (cfg0.grid.coords t) ((dats m 0 c).after 2 t)) = scalesBuf m c t d := by
  rw [after_2]; unfold scalesBuf; exact congrArg (win0_2.fill (grid0.coords t) d) (win0_2.cut_fill _ _ _)

/-! ## The body's obligation -/

/-- The result's window, forgotten. -/
def forgets : Fin 4 → Bool := fun | 0 => false | 1 => false | 2 => false | 3 => true | ⟨_ + 4, h⟩ => absurd h (Nat.not_lt.2 (Nat.le_add_left _ _))

theorem body_forget (c : Dev nD) : BodyObligationLoose (dats m 0 c) (defs₀ (F := F)) 𝒱₀ () Set.univ forgets := fun t => by
  rw [bigSep_W0, bigSep_W0]
  simp only [forgets]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, PhiA_eq]
  iintro ⟨⟨⟨%W, H5⟩, Hg⟩, Ho, ⟨%d1, H1⟩, ⟨%d2, H2⟩, ⟨%d3, H3⟩, ⟨%d4, H4⟩⟩
  rw [before_0 m c t d1, before_1 m c t d2, before_2 m c t d3]
  iapply (wp_kernel (F := F) (st0_0 t) (st0_1 t) (st0_2 t) (st0_3 t) (hstage0_3 ((cfg0.slots t 3).cast nbuf0_3)) scM (grid0.coords t)
    (hstage0_0 ((cfg0.slots t 0).cast nbuf0_0)) (hstage0_1 ((cfg0.slots t 1).cast nbuf0_1)) (hstage0_2 ((cfg0.slots t 2).cast nbuf0_2))
    (Memref.isWhole_whole _) c Set.univ
    (iblk m c 0 t) (codesBuf m c t d2) (scalesBuf m c t d3) d4 W _)
  isplitl [H1 H2 H3 H4 H5]
  · isplitl [H1]; · iexact H1
    isplitl [H2]; · iexact H2
    isplitl [H3]; · iexact H3
    isplitl [H4]; · iexact H4
    iexact H5
  iintro ⟨H1, H2, H3, H4, H5⟩
  isplitl [H5 Hg]
  · isplitl [H5]
    · iexists _; iexact H5
    iexact Hg
  isplitl [Ho]; · iexact Ho
  isplitl [H1]; · iexact H1
  isplitl [H2]
  · iexists d2
    rw [back_1]
    iexact H2
  isplitl [H3]
  · iexists d3
    rw [back_2]
    iexact H3
  iexists _; iexact H4

/-! ## The run, the result forgotten -/

set_option backward.isDefEq.respectTransparency.types false in
/-- From any memory with zero counters the program runs, its three arguments end as they were and every counter at zero. -/
theorem run_forget : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  Pipeline.θ_run_frame_forget cfgs (dats m) (0 : Fin 1) launch0 defs₀ 𝒱₀ forgets m ρ main
    (hbody := body_forget m) (hshare := fun c => (dats m 0 c).share_full fun _ => rfl) (howed := fun _ _ => rfl)
    (V := V m) (hmain := hmain m 𝒱₀) (hA := fun _ _ => rfl) (hΦ := fun _ _ => rfl)
    (Q' := fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0)
    (hQ' := fun r h => ⟨fun c =>
      ⟨((h.1 c).2 main_arg0 (Pipeline.mem_restRefs_of main_arg0 (by decide) (by decide))).trans (V_main_arg0 m c),
       (h.1.arr_in c (1 : Fin 4) rfl).trans (V_main_arg1 m c),
       (h.1.arr_in c (2 : Fin 4) rfl).trans (V_main_arg2 m c)⟩, h.2⟩)

end Cert.KernelIdeal.Body

end
-- ==== Proof.Elem.lean ====
/-
  One weight, two ways.

  A weight is a four-bit float (sign, two exponent bits, one fraction bit) times a power of two kept as its biased
  exponent `s`. The kernel lays the four bits out as an eight-bit float, converts it, multiplies by 64 (the two
  formats' biases differ by six) and by the power of two `s` as a bfloat16. The reference writes the product's bfloat16
  bits outright. `weight_eq`: the same number, wherever the code is zero or `s` is from 2 to 252. The bits' fields are
  decided for every code and every `s`; the rest is arithmetic of powers of two.
-/
module

public import Idealize.ShloMosaic.PureOps.Ideal

@[expose] public section

noncomputable section

namespace Cert.Elem

open Idealize.ShloMosaic

/-! ## The kernel's bits -/

/-- A byte of two codes as a word: in each half, the code's eight-bit float. -/
def codeWord (c : BitVec 8) : BitVec 32 :=
  (c.setWidth 32 * 16388#32 &&& 1835036#32) ||| (c.setWidth 32 * 65552#32 &&& 8388736#32)
/-- The eight-bit float of half `p`. -/
def fpBits (c : BitVec 8) (p : Nat) : BitVec 8 := ((codeWord c).extractLsb' (16 * p) 16).setWidth 8
/-- A scale's byte as a word: in each half, the scale's bfloat16. -/
def scaleWord (s : BitVec 8) : BitVec 32 := (s.setWidth 32 <<< 7) ||| (s.setWidth 32 <<< 23)
/-- The bfloat16 of half `p`. -/
def scaleBits (s : BitVec 8) (p : Nat) : BitVec 16 := (scaleWord s).extractLsb' (16 * p) 16
/-- The kernel's weight: of byte `c`'s code `p`, under scale byte `s`. -/
def kerWeight (c s : BitVec 8) (p : Nat) : EReal :=
  Ideal.ofBits .fp8e4m3 (fpBits c p) * Ideal.ofBits .bf16 0x4280#16 * Ideal.ofBits .bf16 (scaleBits s p)

/-! ## The reference's -/

/-- Byte `c`'s code `p`. -/
def code (c : BitVec 8) (p : Nat) : BitVec 32 := if p = 0 then c.setWidth 32 &&& 15#32 else c.setWidth 32 >>> 4
/-- Half the scale, in bfloat16's exponent field. -/
def half (s : BitVec 8) : BitVec 32 := (s.setWidth 32 - 1#32) <<< 7
/-- The bits of the product of code `n` and twice `h`. -/
def prodBits (n h : BitVec 32) : BitVec 16 :=
  ((if 1#32 < n &&& 7#32 then (n &&& 7#32) <<< 6 + h else if n &&& 7#32 = 1#32 then h else 0#32) ||| ((n &&& 8#32) <<< 12)).setWidth 16
/-- The reference's weight. -/
def refWeight (c s : BitVec 8) (p : Nat) : EReal := Ideal.ofBits .bf16 (prodBits (code c p) (half s))

/-! ## The fields -/

theorem code_lt : ∀ c : Fin 256, ∀ p : Fin 2, (code (BitVec.ofFin c) p).toNat < 16 := by decide +kernel

theorem fp_fields : ∀ c : Fin 256, ∀ p : Fin 2,
    ((fpBits (BitVec.ofFin c) p).extractLsb' 7 1 == 1#1) = decide (8 ≤ (code (BitVec.ofFin c) p).toNat)
    ∧ ((fpBits (BitVec.ofFin c) p).extractLsb' 3 4).toNat = (code (BitVec.ofFin c) p).toNat % 8 / 2
    ∧ ((fpBits (BitVec.ofFin c) p).extractLsb' 0 3).toNat = 4 * ((code (BitVec.ofFin c) p).toNat % 2) := by decide +kernel

theorem scale_fields : ∀ s : Fin 256, ∀ p : Fin 2,
    ((scaleBits (BitVec.ofFin s) p).extractLsb' 15 1 == 1#1) = false
    ∧ ((scaleBits (BitVec.ofFin s) p).extractLsb' 7 8).toNat = s.val
    ∧ ((scaleBits (BitVec.ofFin s) p).extractLsb' 0 7).toNat = 0 := by decide +kernel

theorem prod_fields : ∀ n : Fin 16, ∀ s : Fin 256, n.val % 8 ≠ 0 → 2 ≤ s.val → s.val ≤ 252 →
    ((prodBits (BitVec.ofNat 32 n.val) (half (BitVec.ofFin s))).extractLsb' 15 1 == 1#1) = decide (8 ≤ n.val)
    ∧ ((prodBits (BitVec.ofNat 32 n.val) (half (BitVec.ofFin s))).extractLsb' 7 8).toNat = s.val - 1 + n.val % 8 / 2
    ∧ ((prodBits (BitVec.ofNat 32 n.val) (half (BitVec.ofFin s))).extractLsb' 0 7).toNat = if n.val % 8 = 1 then 0 else 64 * (n.val % 2) := by
  decide +kernel

theorem prod_zero : ∀ n : Fin 16, ∀ s : Fin 256, n.val % 8 = 0 →
    ((prodBits (BitVec.ofNat 32 n.val) (half (BitVec.ofFin s))).extractLsb' 7 8).toNat = 0
    ∧ ((prodBits (BitVec.ofNat 32 n.val) (half (BitVec.ofFin s))).extractLsb' 0 7).toNat = 0 := by
  decide +kernel

/-! ## The numbers -/

theorem e4m3_of (b : BitVec 8) (neg : Bool) (ex fr : Nat) (hn : (b.extractLsb' 7 1 == 1#1) = neg) (he : (b.extractLsb' 3 4).toNat = ex)
    (hf : (b.extractLsb' 0 3).toNat = fr) (hx : ex ≠ 15) :
    Ideal.ofBits .fp8e4m3 b = (((if neg then -1 else 1) * (if ex = 0 then (fr : ℝ) * (2 : ℝ) ^ (-9 : ℤ) else (8 + fr : ℝ) * (2 : ℝ) ^ ((ex : ℤ) - 10)) : ℝ) : EReal) := by
  simp only [Ideal.ofBits, Ideal.e4m3fn, hn, he, hf]
  rw [if_neg (fun h => hx h.1)]
  split <;> simp only [EReal.coe_eq_coe_iff] <;> push_cast <;> ring

theorem bf16_of (b : BitVec 16) (neg : Bool) (ex fr : Nat) (hn : (b.extractLsb' 15 1 == 1#1) = neg) (he : (b.extractLsb' 7 8).toNat = ex)
    (hf : (b.extractLsb' 0 7).toNat = fr) (h0 : ex ≠ 0) (hx : ex ≠ 255) :
    Ideal.ofBits .bf16 b = (((if neg then -1 else 1) * ((128 + fr : ℝ) * (2 : ℝ) ^ ((ex : ℤ) - 134)) : ℝ) : EReal) := by
  simp only [Ideal.ofBits, Ideal.ieee, Nat.reduceAdd, hn, he, hf]
  rw [if_neg (by simpa using hx), if_neg h0]
  simp only [EReal.coe_eq_coe_iff]
  rw [show ((ex : ℤ) - (2 ^ (8 - 1) - 1) - ((7 : ℕ) : ℤ)) = (ex : ℤ) - 134 by norm_num; ring]
  push_cast; ring

theorem bf16_zero (b : BitVec 16) (he : (b.extractLsb' 7 8).toNat = 0) (hf : (b.extractLsb' 0 7).toNat = 0) :
    Ideal.ofBits .bf16 b = (0 : EReal) := by
  simp only [Ideal.ofBits, Ideal.ieee, he, hf]
  rw [if_neg (by norm_num)]
  simp

theorem sixtyFour : Ideal.ofBits .bf16 0x4280#16 = ((64 : ℝ) : EReal) := by
  rw [bf16_of 0x4280#16 false 133 0 (by decide) (by decide) (by decide) (by decide) (by decide)]
  norm_num

theorem two_pow (e : ℤ) (s : Nat) : (2 : ℝ) ^ ((s : ℤ) + e) = (2 : ℝ) ^ s * (2 : ℝ) ^ e := by
  rw [zpow_add₀ (by norm_num), zpow_natCast]

theorem weight_fin (c s : Fin 256) (p : Fin 2)
    (h : (code (BitVec.ofFin c) p).toNat % 8 = 0 ∨ (2 ≤ s.val ∧ s.val ≤ 252)) :
    kerWeight (BitVec.ofFin c) (BitVec.ofFin s) p = refWeight (BitVec.ofFin c) (BitVec.ofFin s) p := by
  unfold kerWeight refWeight
  have hlt := code_lt c p
  obtain ⟨f1, f2, f3⟩ := fp_fields c p
  obtain ⟨s1, s2, s3⟩ := scale_fields s p
  have hz := prod_zero ⟨_, hlt⟩ s
  have hp := prod_fields ⟨_, hlt⟩ s
  simp only [BitVec.ofNat_toNat, BitVec.setWidth_eq] at hz hp
  generalize code (BitVec.ofFin c) p = n at *
  by_cases hm : n.toNat % 8 = 0
  · obtain ⟨z1, z2⟩ := hz hm
    rw [bf16_zero _ z1 z2, e4m3_of _ _ _ _ f1 f2 f3 (by omega), hm, if_pos rfl, show n.toNat % 2 = 0 by omega]
    simp
  · obtain ⟨l, u⟩ := h.resolve_left hm
    obtain ⟨p1, p2, p3⟩ := hp hm l u
    rw [bf16_of _ _ _ _ p1 p2 p3 (by omega) (by omega), e4m3_of _ _ _ _ f1 f2 f3 (by omega),
      bf16_of _ _ _ _ s1 s2 s3 (by omega) (by omega), sixtyFour, ← EReal.coe_mul, ← EReal.coe_mul, EReal.coe_eq_coe_iff]
    have e1 : ((s.val - 1 + n.toNat % 8 / 2 : Nat) : ℤ) - 134 = (s.val : ℤ) + (((n.toNat % 8 / 2 : Nat) : ℤ) - 135) := by omega
    rw [e1, sub_eq_add_neg (s.val : ℤ) 134, two_pow, two_pow]
    generalize n.toNat = k at *
    generalize (2 : ℝ) ^ s.val = y
    clear * - hlt hm
    interval_cases k <;> simp at hm <;> norm_num <;> ring

/-- The kernel's weight is the reference's. -/
theorem weight_eq (c s : BitVec 8) (p : Nat) (hp : p < 2) (h : (code c p).toNat % 8 = 0 ∨ (2 ≤ s.toNat ∧ s.toNat ≤ 252)) :
    kerWeight c s p = refWeight c s p :=
  weight_fin c.toFin s.toFin ⟨p, hp⟩ h

/-- A byte both of whose codes are zero but for their signs. -/
theorem zero_fin : ∀ c : Fin 256, (BitVec.ofFin c : BitVec 8).setWidth 32 &&& 119#32 = 0#32 → ∀ p : Fin 2, (code (BitVec.ofFin c) p).toNat % 8 = 0 := by
  decide +kernel
theorem code_zero (c : BitVec 8) (h : c.setWidth 32 &&& 119#32 = 0#32) (p : Nat) (hp : p < 2) : (code c p).toNat % 8 = 0 :=
  zero_fin c.toFin h ⟨p, hp⟩

/-! ## Sums regrouped -/

open Finset

/-- A sum over `256 n` terms, 256 at a time; -/
theorem sum_tiles (g : Nat → EReal) (n : Nat) : ∑ k ∈ range n, ∑ j ∈ range 256, g (256 * k + j) = ∑ K ∈ range (256 * n), g K := by
  induction n with
  | zero => simp
  | succ n ih => rw [sum_range_succ, ih, Nat.mul_succ, sum_range_add]

/-- a sum over `2 n` terms, the even ones and the odd. -/
theorem sum_parity (g : Nat → EReal) (n : Nat) : ∑ K ∈ range (2 * n), g K = ∑ q ∈ range n, g (2 * q) + ∑ q ∈ range n, g (2 * q + 1) := by
  induction n with
  | zero => simp
  | succ n ih =>
    rw [Nat.mul_succ, sum_range_succ, sum_range_succ, ih, sum_range_succ, sum_range_succ]
    simp only [add_assoc, add_left_comm, add_comm]

end Cert.Elem

end
-- ==== Proof.Value.lean ====
/-
  The kernel body's K tile over the reals, element by element.

  The scale words, the decoded codes and the scaled half blocks each read at an index (`scaleWords_apply`,
  `decode_apply`, `wLo_at`, `wHi_at`); the sixteen half blocks laid end to end are the tile's 256 rows of weights, in
  the order of `x`'s columns (`tile_weights`); the tile's product is a sum over them (`tileVal_apply`).
-/
module

public import proofs.«01_k».proof.Proof.Body
public import proofs.«01_k».proof.Proof.Elem
public import Idealize.ShloMosaic.Lib.Pointwise
public import Idealize.ShloMosaic.Lib.BitcastPair

@[expose] public section

set_option maxRecDepth 16384

noncomputable section

namespace Cert.KernelIdeal.Body

open Cert.KernelIdeal Cert.KernelIdeal.Gen
open Idealize.ShloMosaic Idealize.ShloMosaic.TcCoe

/-! ## The parts of a weight -/

theorem scaleWords_apply (S : Vec Ideal S360x512 .i8) (r : Fin 360) (n : Fin 512) :
    scaleWords (F := Ideal) S (ix2 r n) = Elem.scaleWord (S (ix2 r n)) := by
  unfold scaleWords Elem.scaleWord
  pointwise
  rfl

theorem src_scale (i : Fin 16) (n : Fin 512) (q : Nat) (hq : q < 8) (h) :
    bitcasts_S8x512_w32_S16x512_w16.srcIdx (ix2 i n) q h = ix2 ⟨q, hq⟩ n := by
  funext a; apply Fin.ext; fin_cases a
  · exact Shape.Bitcasts.srcIdx_row _ _ _ _ _ rfl
  · exact Shape.Bitcasts.srcIdx_other _ _ _ _ _ (by decide)

theorem src_codes (i : Fin 64) (n : Fin 512) (q : Nat) (hq : q < 32) (h) :
    bitcasts_S32x512_w32_S64x512_w16.srcIdx (ix2 i n) q h = ix2 ⟨q, hq⟩ n := by
  funext a; apply Fin.ext; fin_cases a
  · exact Shape.Bitcasts.srcIdx_row _ _ _ _ _ rfl
  · exact Shape.Bitcasts.srcIdx_other _ _ _ _ _ (by decide)

theorem scaleRows_apply (s : Vec Ideal S1x512 .i32) (i : Fin 16) (n : Fin 512) :
    scaleRows (F := Ideal) s (ix2 i n) = Ideal.ofBits .bf16 ((s (ix2 0 n)).extractLsb' (16 * (i.val % 2)) 16) := by
  unfold scaleRows
  pointwise
  rw [bitcast_32_16]
  rw [src_scale i n (S16x512.row (ix2 i n) / 2) (by have := i.isLt; show i.val / 2 < 8; omega)]
  pointwise

theorem decode_apply (c : Vec Ideal S32x512 .i8) (i : Fin 64) (n : Fin 512) :
    decode (F := Ideal) c (ix2 i n)
      = Ideal.ofBits .fp8e4m3 (Elem.fpBits (c (ix2 ⟨i.val / 2, by omega⟩ n)) (i.val % 2)) * Ideal.ofBits .bf16 0x4280#16 := by
  unfold decode Elem.fpBits Elem.codeWord
  pointwise
  rw [bitcast_32_16]
  rw [src_codes i n (S64x512.row (ix2 i n) / 2) (by have := i.isLt; show i.val / 2 < 32; omega)]
  pointwise
  rfl

/-- The weight of row `a`'s half `e` at column `n`, under the scale of row `b`. -/
def wAt (C : Vec Ideal S5760x512 .i8) (S : Vec Ideal S360x512 .i32) (a : Fin 5760) (b : Fin 360) (e : Nat) (n : Fin 512) : EReal :=
  Ideal.ofBits .fp8e4m3 (Elem.fpBits (C (ix2 a n)) e) * Ideal.ofBits .bf16 0x4280#16 * Ideal.ofBits .bf16 ((S (ix2 b n)).extractLsb' (16 * e) 16)

theorem decode_at (C : Vec Ideal S5760x512 .i8) (r : Nat) (hr : r + 32 ≤ 5760) (d : Fin 64) (n : Fin 512) (a : Fin 5760) (e : Nat)
    (ha : a.val = r + d.val / 2) (he : e = d.val % 2) :
    decode (F := Ideal) (View.ld C (codesRect r hr)) (ix2 d n)
      = Ideal.ofBits .fp8e4m3 (Elem.fpBits (C (ix2 a n)) e) * Ideal.ofBits .bf16 0x4280#16 := by
  rw [decode_apply, he]
  pointwise
  rw [show (⟨r + d.val / 2, by omega⟩ : Fin 5760) = a from Fin.ext ha.symm]

theorem wLo_at (C : Vec Ideal S5760x512 .i8) (S : Vec Ideal S360x512 .i32) (p : Nat) (hp : p + 32 ≤ 64) (hp2 : p % 2 = 0) (q : Nat) (hq : q < 360)
    (r : Nat) (hr : r + 32 ≤ 5760) (i : Fin 16) (n : Fin 512) (a : Fin 5760) (b : Fin 360) (ha : a.val = r + (p + i.val) / 2) (hb : b.val = q) :
    wLo (F := Ideal) p hp (View.ld S (scaleRect q hq)) (View.ld C (codesRect r hr)) (ix2 i n) = wAt C S a b (i.val % 2) n := by
  unfold wLo wAt
  pointwise [scaleRows_apply]
  rw [decode_at C r hr _ n a (i.val % 2) ha (by show i.val % 2 = (p + i.val) % 2; omega),
    show (⟨q, hq⟩ : Fin 360) = b from Fin.ext hb.symm]

theorem wHi_at (C : Vec Ideal S5760x512 .i8) (S : Vec Ideal S360x512 .i32) (p : Nat) (hp : p + 32 ≤ 64) (hp2 : p % 2 = 0) (q : Nat) (hq : q < 360)
    (r : Nat) (hr : r + 32 ≤ 5760) (i : Fin 16) (n : Fin 512) (a : Fin 5760) (b : Fin 360) (ha : a.val = r + (p + (16 + i.val)) / 2) (hb : b.val = q) :
    wHi (F := Ideal) p hp (View.ld S (scaleRect q hq)) (View.ld C (codesRect r hr)) (ix2 i n) = wAt C S a b (i.val % 2) n := by
  unfold wHi wAt
  pointwise [scaleRows_apply]
  rw [decode_at C r hr _ n a (i.val % 2) ha (by show i.val % 2 = (p + (16 + i.val)) % 2; omega),
    show (⟨q, hq⟩ : Fin 360) = b from Fin.ext hb.symm]

/-- Sixteen pieces of sixteen rows laid end to end. -/
theorem concat_at (f : Fin 16 → FVec Ideal S16x512 .bf16) (j : Fin 256) (n : Fin 512) :
    concatenate S256x512 0 [⟨S16x512, f 0⟩, ⟨S16x512, f 1⟩, ⟨S16x512, f 2⟩, ⟨S16x512, f 3⟩, ⟨S16x512, f 4⟩, ⟨S16x512, f 5⟩, ⟨S16x512, f 6⟩, ⟨S16x512, f 7⟩,
      ⟨S16x512, f 8⟩, ⟨S16x512, f 9⟩, ⟨S16x512, f 10⟩, ⟨S16x512, f 11⟩, ⟨S16x512, f 12⟩, ⟨S16x512, f 13⟩, ⟨S16x512, f 14⟩, ⟨S16x512, f 15⟩]
      concatenates_S16x512_S16x512_S16x512_S16x512_S16x512_S16x512_S16x512_S16x512_S16x512_S16x512_S16x512_S16x512_S16x512_S16x512_S16x512_S16x512_S256x512_d0
      (ix2 j n) = f ⟨j.val / 16, by omega⟩ (ix2 ⟨j.val % 16, by omega⟩ n) :=
  concatenate_ofFn_apply (t := S256x512) (0 : Fin 2) f
    concatenates_S16x512_S16x512_S16x512_S16x512_S16x512_S16x512_S16x512_S16x512_S16x512_S16x512_S16x512_S16x512_S16x512_S16x512_S16x512_S16x512_S256x512_d0
    rfl 16 rfl (ix2 j n) ⟨j.val / 16, by omega⟩ rfl (ix2 ⟨j.val % 16, by omega⟩ n) rfl
    (fun b hb => by fin_cases b; · exact absurd rfl hb
                    rfl)

/-! ## A tile -/

/-- A tile's sixteen half blocks. -/
def pieces (C : Vec Ideal S5760x512 .i8) (S : Vec Ideal S360x512 .i32) (k : Nat) (hk : k < 45) : Fin 16 → FVec Ideal S16x512 .bf16 :=
  ![wLo 0 h0 (View.ld S (scaleRect (8 * k) (by omega))) (View.ld C (codesRect (128 * k) (by omega))),
    wHi 0 h0 (View.ld S (scaleRect (8 * k) (by omega))) (View.ld C (codesRect (128 * k) (by omega))),
    wLo 32 h32 (View.ld S (scaleRect (8 * k + 1) (by omega))) (View.ld C (codesRect (128 * k) (by omega))),
    wHi 32 h32 (View.ld S (scaleRect (8 * k + 1) (by omega))) (View.ld C (codesRect (128 * k) (by omega))),
    wLo 0 h0 (View.ld S (scaleRect (8 * k + 2) (by omega))) (View.ld C (codesRect (128 * k + 32) (by omega))),
    wHi 0 h0 (View.ld S (scaleRect (8 * k + 2) (by omega))) (View.ld C (codesRect (128 * k + 32) (by omega))),
    wLo 32 h32 (View.ld S (scaleRect (8 * k + 3) (by omega))) (View.ld C (codesRect (128 * k + 32) (by omega))),
    wHi 32 h32 (View.ld S (scaleRect (8 * k + 3) (by omega))) (View.ld C (codesRect (128 * k + 32) (by omega))),
    wLo 0 h0 (View.ld S (scaleRect (8 * k + 4) (by omega))) (View.ld C (codesRect (128 * k + 64) (by omega))),
    wHi 0 h0 (View.ld S (scaleRect (8 * k + 4) (by omega))) (View.ld C (codesRect (128 * k + 64) (by omega))),
    wLo 32 h32 (View.ld S (scaleRect (8 * k + 5) (by omega))) (View.ld C (codesRect (128 * k + 64) (by omega))),
    wHi 32 h32 (View.ld S (scaleRect (8 * k + 5) (by omega))) (View.ld C (codesRect (128 * k + 64) (by omega))),
    wLo 0 h0 (View.ld S (scaleRect (8 * k + 6) (by omega))) (View.ld C (codesRect (128 * k + 96) (by omega))),
    wHi 0 h0 (View.ld S (scaleRect (8 * k + 6) (by omega))) (View.ld C (codesRect (128 * k + 96) (by omega))),
    wLo 32 h32 (View.ld S (scaleRect (8 * k + 7) (by omega))) (View.ld C (codesRect (128 * k + 96) (by omega))),
    wHi 32 h32 (View.ld S (scaleRect (8 * k + 7) (by omega))) (View.ld C (codesRect (128 * k + 96) (by omega)))]

attribute [local irreducible] wLo wHi wAt in
theorem pieces_at (C : Vec Ideal S5760x512 .i8) (S : Vec Ideal S360x512 .i32) (k : Nat) (hk : k < 45) (q i : Fin 16) (n : Fin 512) :
    pieces C S k hk q (ix2 i n)
      = wAt C S ⟨128 * k + 8 * q.val + i.val / 2, by omega⟩ ⟨8 * k + q.val / 2, by omega⟩ (i.val % 2) n := by
  fin_cases q
  all_goals
    first
    | exact wLo_at C S _ _ (by decide) _ _ _ _ i n _ _ (by simp only []; omega) (by simp only []; try omega)
    | exact wHi_at C S _ _ (by decide) _ _ _ _ i n _ _ (by simp only []; omega) (by simp only []; try omega)

/-- The tile's weights, its columns of `x` in order. -/
theorem tile_weights (C : Vec Ideal S5760x512 .i8) (S : Vec Ideal S360x512 .i32) (k : Nat) (hk : k < 45) (j : Fin 256) (n : Fin 512) :
    pieces C S k hk ⟨j.val / 16, by omega⟩ (ix2 ⟨j.val % 16, by omega⟩ n)
      = wAt C S ⟨(256 * k + j.val) / 2, by omega⟩ ⟨(256 * k + j.val) / 32, by omega⟩ ((256 * k + j.val) % 2) n := by
  rw [pieces_at]
  congr 1
  · apply Fin.ext; show 128 * k + 8 * (j.val / 16) + j.val % 16 / 2 = (256 * k + j.val) / 2; omega
  · apply Fin.ext; show 8 * k + j.val / 16 / 2 = (256 * k + j.val) / 32; omega
  · show j.val % 16 % 2 = _; omega

theorem matmul_at (x : FVec Ideal S192x256 .bf16) (W : FVec Ideal S256x512 .bf16) (r : Fin 192) (n : Fin 512) :
    matmul dot_S192x256_S256x512_S192x512_1_0_0_1_n_n none (shapeCast S192x256 x shapeCasts_S192x256_S192x256) W
        (constant S192x512 .f32 0x00000000#32) (ix2 r n)
      = ∑ j : Fin 256, x (ix2 r j) * W (ix2 j n) := by
  pointwise

theorem tileVal_apply (X : Vec Ideal S192x11520 .bf16) (C : Vec Ideal S5760x512 .i8) (S : Vec Ideal S360x512 .i32) (k : Nat) (hk : k < 45)
    (r : Fin 192) (n : Fin 512) :
    tileVal X C S k hk (ix2 r n)
      = ∑ j : Fin 256, X (ix2 r ⟨256 * k + j.val, by omega⟩)
          * wAt C S ⟨(256 * k + j.val) / 2, by omega⟩ ⟨(256 * k + j.val) / 32, by omega⟩ ((256 * k + j.val) % 2) n := by
  refine (matmul_at (View.ld X (xRect (256 * k) (by omega))) _ r n).trans (Finset.sum_congr rfl fun j _ => ?_)
  refine congr (congrArg _ ?_) ((concat_at (pieces C S k hk) j n).trans (tile_weights C S k hk j n))
  pointwise

end Cert.KernelIdeal.Body

end
-- ==== Proof.Sum.lean ====
/-
  The body's result as one sum.

  The body adds the products of forty-five tiles of 256 columns of `x`; over the reals the order and grouping of a sum
  say nothing, so its result at row `r` and column `n` is one sum over all the columns of `x`, each times the weight
  of that column (`bodyVal_apply`). Column `n` of the result reads column `n` alone of the codes and scales
  (`bodyVal_congr`).
-/
module

public import proofs.«01_k».proof.Proof.Value

@[expose] public section

set_option maxRecDepth 16384

noncomputable section

namespace Cert.KernelIdeal.Body

open Cert.KernelIdeal Cert.KernelIdeal.Gen
open Idealize.ShloMosaic Idealize.ShloMosaic.TcCoe
open Finset

/-- Column `K` of `x` at row `r`, times its weight at column `n`; zero past the last. -/
def term (X : Vec Ideal S192x11520 .bf16) (C : Vec Ideal S5760x512 .i8) (S : Vec Ideal S360x512 .i32) (r : Fin 192) (n : Fin 512) (K : Nat) : EReal :=
  if h : K < 11520 then X (ix2 r ⟨K, h⟩) * wAt C S ⟨K / 2, by omega⟩ ⟨K / 32, by omega⟩ (K % 2) n else 0

theorem tileVal_sum (X : Vec Ideal S192x11520 .bf16) (C : Vec Ideal S5760x512 .i8) (S : Vec Ideal S360x512 .i32) (k : Nat) (hk : k < 45)
    (r : Fin 192) (n : Fin 512) : tileVal X C S k hk (ix2 r n) = ∑ j ∈ range 256, term X C S r n (256 * k + j) := by
  rw [tileVal_apply, Finset.sum_range]
  refine sum_congr rfl fun j _ => ?_
  unfold term
  rw [dif_pos (by omega)]

theorem sumFrom_apply (X : Vec Ideal S192x11520 .bf16) (C : Vec Ideal S5760x512 .i8) (S : Vec Ideal S360x512 .i32) (r : Fin 192) (n : Fin 512) :
    ∀ (m : Nat) (hm : m ≤ 44) (acc : FVec Ideal S192x512 .f32),
      sumFrom X C S m acc (ix2 r n) = acc (ix2 r n) + ∑ i ∈ range m, ∑ j ∈ range 256, term X C S r n (256 * (45 - m + i) + j)
  | 0, _, acc => by simp [sumFrom]
  | m + 1, hm, acc => by
    rw [sumFrom, sumFrom_apply X C S r n m (by omega), sum_range_succ']
    have e : addf acc (tileVal X C S (44 - m) (by omega)) (ix2 r n) = acc (ix2 r n) + tileVal X C S (44 - m) (by omega) (ix2 r n) := rfl
    rw [e, tileVal_sum, add_assoc]
    refine congrArg _ ?_
    rw [add_comm]
    refine congr (congrArg _ (sum_congr rfl fun i hi => sum_congr rfl fun j _ => congrArg _ ?_)) (sum_congr rfl fun j _ => congrArg _ ?_)
    · have := mem_range.mp hi; omega
    · omega

theorem bodyVal_apply (X : Vec Ideal S192x11520 .bf16) (C : Vec Ideal S5760x512 .i8) (S : Vec Ideal S360x512 .i8) (r : Fin 192) (n : Fin 512) :
    bodyVal X C S (ix2 r n)
      = ∑ K : Fin 11520, X (ix2 r K) * Elem.kerWeight (C (ix2 ⟨K.val / 2, by omega⟩ n)) (S (ix2 ⟨K.val / 32, by omega⟩ n)) (K.val % 2) := by
  have e : bodyVal X C S (ix2 r n) = sumFrom X C (scaleWords (F := Ideal) S) 44 (tileVal X C (scaleWords (F := Ideal) S) 0 (by omega)) (ix2 r n) := rfl
  rw [e, sumFrom_apply X C _ r n 44 (le_refl _), tileVal_sum]
  rw [show (∑ i ∈ range 44, ∑ j ∈ range 256, term X C (scaleWords (F := Ideal) S) r n (256 * (45 - 44 + i) + j))
      = ∑ i ∈ range 44, ∑ j ∈ range 256, term X C (scaleWords (F := Ideal) S) r n (256 * (i + 1) + j) from
    sum_congr rfl fun i _ => by rw [show 45 - 44 + i = i + 1 by omega]]
  rw [add_comm, ← sum_range_succ' (fun k => ∑ j ∈ range 256, term X C (scaleWords (F := Ideal) S) r n (256 * k + j)) 44, Elem.sum_tiles, Finset.sum_range]
  refine sum_congr rfl fun K _ => ?_
  unfold term
  rw [dif_pos K.isLt]
  unfold wAt Elem.kerWeight Elem.scaleBits
  rw [scaleWords_apply]

/-- Column `n` of the body's value reads column `n` of the codes and scales. -/
theorem bodyVal_congr (X : Vec Ideal S192x11520 .bf16) (C C' : Vec Ideal S5760x512 .i8) (S S' : Vec Ideal S360x512 .i8) (r : Fin 192) (n : Fin 512)
    (hC : ∀ a, C (ix2 a n) = C' (ix2 a n)) (hS : ∀ b, S (ix2 b n) = S' (ix2 b n)) : bodyVal X C S (ix2 r n) = bodyVal X C' S' (ix2 r n) := by
  rw [bodyVal_apply, bodyVal_apply]
  exact sum_congr rfl fun K _ => by rw [hC, hS]

end Cert.KernelIdeal.Body

end
-- ==== Proof.Exact.lean ====
/-
  The kernel's run over the reals, with its result.

  At every point the buffers hold the argument arrays' columns `512 t + n` wherever column `n` lies inside the arrays
  (`codes_at`, `scales_at`, `x_at`), so on those columns the body leaves `result` of the arguments (`outBuf_at`),
  whatever the buffers hold past the arrays' ends (`cut_out`). The blocks written back tile the result's array
  (`arr_out`), and `run_exact` is the run.
-/
module

public import proofs.«01_k».proof.Proof.Run
public import proofs.«01_k».proof.Proof.Sum
public import Idealize.ShloMosaic.Lib.Pipeline.ValueKit
public import Idealize.ShloMosaic.Lib.StableHlo.RunRead

@[expose] public section

set_option maxRecDepth 16384

noncomputable section

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ) (ρ : Dev nD → PrngReg)

/-! ## The blocks -/

theorem idx : ∀ t : Fin cfg0.N, win0_0.index t = ![0, 0] ∧ win0_1.index t = ![0, t.val] ∧ win0_2.index t = ![0, t.val] ∧ win0_3.index t = ![0, t.val] := by
  decide +kernel

/-- How much of a point's blocks lies inside the arrays: all the rows, and the same columns of each. -/
theorem sizes : ∀ t : Fin cfg0.N,
    win0_1.xsize (grid0.coords t) 0 = 5760 ∧ win0_2.xsize (grid0.coords t) 0 = 360 ∧ win0_3.xsize (grid0.coords t) 0 = 192
    ∧ win0_1.xsize (grid0.coords t) 1 = win0_3.xsize (grid0.coords t) 1 ∧ win0_2.xsize (grid0.coords t) 1 = win0_3.xsize (grid0.coords t) 1
    ∧ 512 * t.val + win0_3.xsize (grid0.coords t) 1 ≤ 15488 ∧ win0_3.xsize (grid0.coords t) 1 ≤ 512 := by
  decide +kernel

theorem V_main_v0 (c : Dev nD) : (V m c main_v0 : Vec Ideal S192x11520 .bf16) = shapeCast S192x11520 (m ((c : Thread nD τ).loc main_arg0)) shapeCasts_S192x1x11520_S192x11520 := by
  unfold V hostOps0
  after_reads_simp
  rfl

theorem cast_x (x : FVec Ideal S192x1x11520 .bf16) (r : Fin 192) (k : Fin 11520) :
    shapeCast S192x11520 x shapeCasts_S192x1x11520_S192x11520 (ix2 r k) = x (ix3 r 0 k) := by
  pointwise

theorem x_at (c : Dev nD) (t : Fin cfg0.N) (r : Fin 192) (k : Fin 11520) :
    iblk m c 0 t (ix2 r k) = m ((c : Thread nD τ).loc main_arg0) (ix3 r 0 k) := by
  have e : (win0_0.blk t).view.emb (ix2 r k) = (ix2 r k : S192x11520.Idx) := by
    obtain ⟨i0, _⟩ := idx t
    blk_ext [i0]
  blk_simp [iblk]
  refine (congrArg (V m c main_v0) e).trans ((congrFun (V_main_v0 m c) _).trans (cast_x _ r k))

theorem moved_1 (t : Fin cfg0.N) (a : Fin 5760) (n : Fin 512) (h : n.val < win0_3.xsize (grid0.coords t) 1) :
    win0_1.moved (grid0.coords t) (ix2 a n) = true := by
  refine (win0_1.moved_iff _ _).mpr fun b => ?_
  obtain ⟨e0, _, _, e1, _⟩ := sizes t
  fin_cases b
  · exact lt_of_lt_of_eq a.isLt e0.symm
  · exact lt_of_lt_of_eq h e1.symm

theorem moved_2 (t : Fin cfg0.N) (a : Fin 360) (n : Fin 512) (h : n.val < win0_3.xsize (grid0.coords t) 1) :
    win0_2.moved (grid0.coords t) (ix2 a n) = true := by
  refine (win0_2.moved_iff _ _).mpr fun b => ?_
  obtain ⟨_, e0, _, _, e1, _⟩ := sizes t
  fin_cases b
  · exact lt_of_lt_of_eq a.isLt e0.symm
  · exact lt_of_lt_of_eq h e1.symm

theorem codes_at (c : Dev nD) (t : Fin cfg0.N) (d : Vec Ideal S5760x512 .i8) (a : Fin 5760) (n : Fin 512) (h : n.val < win0_3.xsize (grid0.coords t) 1) :
    codesBuf m c t d (ix2 a n) = m ((c : Thread nD τ).loc main_arg1) (ix2 a ⟨512 * t.val + n.val, by have := sizes t; omega⟩) := by
  unfold codesBuf Window.fill
  rw [dif_pos (moved_1 t a n h), ← V_main_arg1 m c]
  obtain ⟨_, i1, _⟩ := idx t
  blk_simp [iblk]
  refine congrArg (V m c main_arg1) ?_
  blk_ext [i1]

theorem scales_at (c : Dev nD) (t : Fin cfg0.N) (d : Vec Ideal S360x512 .i8) (a : Fin 360) (n : Fin 512) (h : n.val < win0_3.xsize (grid0.coords t) 1) :
    scalesBuf m c t d (ix2 a n) = m ((c : Thread nD τ).loc main_arg2) (ix2 a ⟨512 * t.val + n.val, by have := sizes t; omega⟩) := by
  unfold scalesBuf Window.fill
  rw [dif_pos (moved_2 t a n h), ← V_main_arg2 m c]
  obtain ⟨_, _, i2, _⟩ := idx t
  blk_simp [iblk]
  refine congrArg (V m c main_arg2) ?_
  blk_ext [i2]

/-! ## The result -/

/-- The layer's result: at row `i 0` and column `i 1`, every column of `x` times its weight. -/
def result (x : FVec Ideal S192x1x11520 .bf16) (C : IVec S5760x15488 8) (S : IVec S360x15488 8) : FVec Ideal S192x15488 .bf16 := fun i =>
  ∑ K : Fin 11520, x (ix3 (i 0) 0 K) * Elem.kerWeight (C (ix2 ⟨K.val / 2, by omega⟩ (i 1))) (S (ix2 ⟨K.val / 32, by omega⟩ (i 1))) (K.val % 2)

theorem outBuf_at (c : Dev nD) (t : Fin cfg0.N) (d1 : Vec Ideal S5760x512 .i8) (d2 : Vec Ideal S360x512 .i8) (r : Fin 192) (n : Fin 512)
    (h : n.val < win0_3.xsize (grid0.coords t) 1) :
    outBuf m c t d1 d2 (ix2 r n)
      = result (m ((c : Thread nD τ).loc main_arg0)) (m ((c : Thread nD τ).loc main_arg1)) (m ((c : Thread nD τ).loc main_arg2))
          (ix2 r ⟨512 * t.val + n.val, by have := sizes t; omega⟩) := by
  unfold outBuf
  rw [bodyVal_apply]
  unfold result
  refine Finset.sum_congr rfl fun K _ => ?_
  rw [codes_at m c t d1 _ n h, scales_at m c t d2 _ n h, x_at]
  rfl

/-- An index of a point's result block, by its row and column. -/
theorem xinj_3 (t : Fin cfg0.N) (y : (win0_3.xblock (grid0.coords t)).Idx) :
    win0_3.xinj (grid0.coords t) y
      = (ix2 ⟨(y 0).val, lt_of_lt_of_le (y 0).isLt (win0_3.xsize_le (grid0.coords t) 0)⟩ ⟨(y 1).val, lt_of_lt_of_le (y 1).isLt (win0_3.xsize_le (grid0.coords t) 1)⟩ : S192x512.Idx) :=
  funext fun a : Fin 2 => by fin_cases a <;> rfl

/-- What is written back does not depend on what the buffers hold past the arrays' ends. -/
theorem cut_out (c : Dev nD) (t : Fin cfg0.N) (d1 d1' : Vec Ideal S5760x512 .i8) (d2 d2' : Vec Ideal S360x512 .i8) :
    win0_3.cut (grid0.coords t) (outBuf m c t d1 d2) = win0_3.cut (grid0.coords t) (outBuf m c t d1' d2') := by
  funext y
  show outBuf m c t d1 d2 (win0_3.xinj _ y) = outBuf m c t d1' d2' (win0_3.xinj _ y)
  rw [xinj_3, outBuf_at m c t d1 d2 _ _ (y 1).isLt, outBuf_at m c t d1' d2' _ _ (y 1).isLt]

theorem back_3 (c : Dev nD) (t : Fin cfg0.N) (d1 : Vec Ideal S5760x512 .i8) (d2 : Vec Ideal S360x512 .i8) :
    (cfg0.win 3).fill (cfg0.grid.coords t) (outBuf m c t d1 d2) ((cfg0.win 3).cut (cfg0.grid.coords t) ((dats m 0 c).after 3 t)) = outBuf m c t d1 d2 := by
  rw [after_3]
  exact win0_3.fill_congr_cut _ (cut_out m c t _ _ _ _)

/-! ## The run -/

theorem body_exact (c : Dev nD) : BodyObligationLoose (dats m 0 c) (defs₀ (F := Ideal)) 𝒱₀ () Set.univ := fun t => by
  rw [bigSep_W0, bigSep_W0]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, PhiA_eq]
  iintro ⟨⟨⟨%W, H5⟩, Hg⟩, Ho, ⟨%d1, H1⟩, ⟨%d2, H2⟩, ⟨%d3, H3⟩, ⟨%d4, H4⟩⟩
  rw [before_0 m c t d1, before_1 m c t d2, before_2 m c t d3]
  iapply (wp_kernel (F := Ideal) (st0_0 t) (st0_1 t) (st0_2 t) (st0_3 t) (hstage0_3 ((cfg0.slots t 3).cast nbuf0_3)) scM (grid0.coords t)
    (hstage0_0 ((cfg0.slots t 0).cast nbuf0_0)) (hstage0_1 ((cfg0.slots t 1).cast nbuf0_1)) (hstage0_2 ((cfg0.slots t 2).cast nbuf0_2))
    (Memref.isWhole_whole _) c Set.univ
    (iblk m c 0 t) (codesBuf m c t d2) (scalesBuf m c t d3) ((dats m 0 c).before (3 : Fin 4) t d4) W _)
  isplitl [H1 H2 H3 H4 H5]
  · isplitl [H1]; · iexact H1
    isplitl [H2]; · iexact H2
    isplitl [H3]; · iexact H3
    isplitl [H4]; · iexact H4
    iexact H5
  iintro ⟨H1, H2, H3, H4, H5⟩
  isplitl [H5 Hg]
  · isplitl [H5]
    · iexists _; iexact H5
    iexact Hg
  isplitl [Ho]; · iexact Ho
  isplitl [H1]; · iexact H1
  isplitl [H2]
  · iexists d2
    rw [back_1]
    iexact H2
  isplitl [H3]
  · iexists d3
    rw [back_2]
    iexact H3
  iexists (outBuf m c t d2 d3)
  rw [back_3]
  iexact H4

/-- The result's array after the run: the blocks written back tile it. -/
theorem arr_out (c : Dev nD) : (dats m 0 c).arrAt 3 cfg0.N
    = result (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after_3]
  refine (congrArg (outBuf m c t _ _) (xinj_3 t y)).trans ((outBuf_at m c t _ _ _ _ (show (y 1).val < win0_3.xsize (grid0.coords t) 1 from (y 1).isLt)).trans (congrArg _ ?_))
  obtain ⟨_, _, _, i3⟩ := idx t
  blk_ext [i3]

set_option backward.isDefEq.respectTransparency.types false in
/-- From any memory with zero counters the program runs, its result's array ends at `result` of the arguments, the
    arguments end as they were. -/
theorem run_exact : θ_run defs (onTc (τ := τ) (main (F := Ideal))) (s₀ m ρ) (fun r => ∀ c : Dev nD,
      r.2.mem ((c.tc : Thread nD τ).loc main_v1)
        = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_frame cfgs (dats m) (0 : Fin 1) launch0 defs₀ 𝒱₀ m ρ main
    (hbody := body_exact m) (hshare := fun c => (dats m 0 c).share_full fun _ => rfl) (howed := fun _ _ => rfl)
    (V := V m) (hmain := hmain m 𝒱₀) (hA := fun _ _ => rfl) (hΦ := fun _ _ => rfl)
    (Q' := fun r => ∀ c : Dev nD,
      r.2.mem ((c.tc : Thread nD τ).loc main_v1)
        = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
    (hQ' := fun r h c =>
      ⟨((h.1 c).1 (3 : Fin 4)).trans (arr_out m c),
       ((h.1 c).2 main_arg0 (Pipeline.mem_restRefs_of main_arg0 (by decide) (by decide))).trans (V_main_arg0 m c),
       (((h.1 c).1 (1 : Fin 4)).trans ((dats m 0 c).arrAt_in 1 rfl _)).trans (V_main_arg1 m c),
       (((h.1 c).1 (2 : Fin 4)).trans ((dats m 0 c).arrAt_in 2 rfl _)).trans (V_main_arg2 m c)⟩)

end Cert.KernelIdeal.Body

end
-- ==== Proof.Ref.lean ====
/-
  The reference's run and the value of its result.

  The reference is a straight line of host operations (its `jnp.where`s are the module's own small functions, whose
  bodies are operations of the line). `ops` is that line, `main_eq` says @main is it, and `run_main` that every run
  ends with the result's buffer at `refOut` of the arguments, the arguments unchanged and every counter at zero.
-/
module

public import Idealize.ShloMosaic.Lib.StableHlo.Run
public import Idealize.ShloMosaic.Lib.StableHlo.RunRead
public import Idealize.ShloMosaic.Lib.Quiescent
public import proofs.«01_k».proof.Proof.Gen.ReferenceIdeal

@[expose] public section

set_option maxRecDepth 16384

noncomputable section

namespace Cert.ReferenceIdeal.Run

open Cert.ReferenceIdeal Cert.ReferenceIdeal.Gen
open Idealize.ShloMosaic Idealize.ShloMosaic.TcCoe Idealize.ShloMosaic.StableHlo Idealize.SL.Sem

variable {F : FTy → Type} [FloatOps F]

/-! ## The value -/

/-- A number at every element of the blocks' array. -/
def fill3 (n : BitVec 32) : IVec S360x16x15488 32 := broadcastInDim S360x16x15488 ![] bcast_S_S360x16x15488 (constantI S_ 32 n)

/-- The codes as numbers, sixteen rows to a block. -/
def codes (C : IVec S5760x15488 8) : IVec S360x16x15488 32 :=
  shapeCast S360x16x15488 (extui 32 C natLt_8_32) shapeCasts_S5760x15488_S360x16x15488

/-- The bits of half a block's scale: its exponent less one, in bfloat16's exponent field. -/
def halfBits (S : IVec S360x15488 8) : IVec S360x1x15488 32 :=
  broadcastInDim S360x1x15488 ![0, 2] bcast_S360x15488_S360x1x15488_0_2
    (Host.shli (subi (extui 32 S natLt_8_32) (broadcastInDim S360x15488 ![] bcast_S_S360x15488 (constantI S_ 32 1#32)))
      (broadcastInDim S360x15488 ![] bcast_S_S360x15488 (constantI S_ 32 7#32)))

/-- The weights of four-bit codes `c` under half scales `h`. -/
def weights (c : IVec S360x16x15488 32) (h : IVec S360x1x15488 32) : FVec F S5760x15488 .bf16 :=
  shapeCast S5760x15488
    (bitcastToFloat .bf16 (trunci 16
      (ori
        (select (cmpi .ugt (andi c (fill3 7#32)) (fill3 1#32))
          (addi (Host.shli (andi c (fill3 7#32)) (fill3 6#32))
            (broadcastInDim S360x16x15488 ![0, 1, 2] bcast_S360x1x15488_S360x16x15488_0_1_2 h))
          (select (cmpi .eq (andi c (fill3 7#32)) (fill3 1#32))
            (broadcastInDim S360x16x15488 ![0, 1, 2] bcast_S360x1x15488_S360x16x15488_0_1_2 h)
            (fill3 0#32)))
        (Host.shli (andi c (fill3 8#32)) (fill3 12#32)))
      natLt_16_32))
    shapeCasts_S360x16x15488_S5760x15488

/-- The reference's result: the even columns of `x` by the low nibbles' weights and the odd by the high nibbles'. -/
def refOut (x : FVec F S192x1x11520 .bf16) (C : IVec S5760x15488 8) (S : IVec S360x15488 8) : FVec F S192x15488 .bf16 :=
  shapeCast S192x15488
    (truncf .bf16
      (addf
        (Host.dotGeneral dot_S192x1x5760_S5760x15488_S192x1x15488_2_0_01_1_n_n none
          (Host.slice S192x1x5760 ![0, 0, 0] ![1, 1, 2] x slicesBy_S192x1x11520_S192x1x5760_0s1_0s1_0s2)
          (weights (andi (codes C) (fill3 15#32)) (halfBits S)))
        (Host.dotGeneral dot_S192x1x5760_S5760x15488_S192x1x15488_2_0_01_1_n_n none
          (Host.slice S192x1x5760 ![0, 0, 1] ![1, 1, 2] x slicesBy_S192x1x11520_S192x1x5760_0s1_0s1_1s2)
          (weights (Host.shrui (codes C) (fill3 4#32)) (halfBits S))))
      bitsLt_bf16_f32)
    shapeCasts_S192x1x15488_S192x15488

/-! ## The run -/

/-- @main's operations, in order. -/
abbrev ops : List (HloOp τ sig (Elt F)) :=
  [ unary main_arg1 main_v0 ((extui 32 · natLt_8_32) : (⟨S5760x15488, .i8⟩ : BufTy).Contents (Elt F) → (⟨S5760x15488, .i32⟩ : BufTy).Contents (Elt F)),
    reshape main_v0 main_v1 (rfl : (.i32 : EltTy) = .i32) shapeCasts_S5760x15488_S360x16x15488,
    unary main_arg2 main_v2 ((extui 32 · natLt_8_32) : (⟨S360x15488, .i8⟩ : BufTy).Contents (Elt F) → (⟨S360x15488, .i32⟩ : BufTy).Contents (Elt F)),
    nullary main_c (constantI S_ 32 1#32),
    unary main_c main_v3 (broadcastInDim S360x15488 ![] bcast_S_S360x15488 : (⟨S_, .i32⟩ : BufTy).Contents (Elt F) → (⟨S360x15488, .i32⟩ : BufTy).Contents (Elt F)),
    binary main_v2 main_v3 main_v4 (subi : (⟨S360x15488, .i32⟩ : BufTy).Contents (Elt F) → (⟨S360x15488, .i32⟩ : BufTy).Contents (Elt F) → (⟨S360x15488, .i32⟩ : BufTy).Contents (Elt F)),
    nullary main_c_0 (constantI S_ 32 7#32),
    unary main_c_0 main_v5 (broadcastInDim S360x15488 ![] bcast_S_S360x15488 : (⟨S_, .i32⟩ : BufTy).Contents (Elt F) → (⟨S360x15488, .i32⟩ : BufTy).Contents (Elt F)),
    binary main_v4 main_v5 main_v6 (Host.shli : (⟨S360x15488, .i32⟩ : BufTy).Contents (Elt F) → (⟨S360x15488, .i32⟩ : BufTy).Contents (Elt F) → (⟨S360x15488, .i32⟩ : BufTy).Contents (Elt F)),
    unary main_v6 main_v7 (broadcastInDim S360x1x15488 ![0, 2] bcast_S360x15488_S360x1x15488_0_2 : (⟨S360x15488, .i32⟩ : BufTy).Contents (Elt F) → (⟨S360x1x15488, .i32⟩ : BufTy).Contents (Elt F)),
    nullary main_c_1 (constantI S_ 32 15#32),
    unary main_c_1 main_v8 (broadcastInDim S360x16x15488 ![] bcast_S_S360x16x15488 : (⟨S_, .i32⟩ : BufTy).Contents (Elt F) → (⟨S360x16x15488, .i32⟩ : BufTy).Contents (Elt F)),
    binary main_v1 main_v8 main_v9 (andi : (⟨S360x16x15488, .i32⟩ : BufTy).Contents (Elt F) → (⟨S360x16x15488, .i32⟩ : BufTy).Contents (Elt F) → (⟨S360x16x15488, .i32⟩ : BufTy).Contents (Elt F)),
    nullary main_c_2 (constantI S_ 32 7#32),
    unary main_c_2 main_v10 (broadcastInDim S360x16x15488 ![] bcast_S_S360x16x15488 : (⟨S_, .i32⟩ : BufTy).Contents (Elt F) → (⟨S360x16x15488, .i32⟩ : BufTy).Contents (Elt F)),
    binary main_v9 main_v10 main_v11 (andi : (⟨S360x16x15488, .i32⟩ : BufTy).Contents (Elt F) → (⟨S360x16x15488, .i32⟩ : BufTy).Contents (Elt F) → (⟨S360x16x15488, .i32⟩ : BufTy).Contents (Elt F)),
    nullary main_c_3 (constantI S_ 32 8#32),
    unary main_c_3 main_v12 (broadcastInDim S360x16x15488 ![] bcast_S_S360x16x15488 : (⟨S_, .i32⟩ : BufTy).Contents (Elt F) → (⟨S360x16x15488, .i32⟩ : BufTy).Contents (Elt F)),
    binary main_v9 main_v12 main_v13 (andi : (⟨S360x16x15488, .i32⟩ : BufTy).Contents (Elt F) → (⟨S360x16x15488, .i32⟩ : BufTy).Contents (Elt F) → (⟨S360x16x15488, .i32⟩ : BufTy).Contents (Elt F)),
    nullary main_c_4 (constantI S_ 32 12#32),
    unary main_c_4 main_v14 (broadcastInDim S360x16x15488 ![] bcast_S_S360x16x15488 : (⟨S_, .i32⟩ : BufTy).Contents (Elt F) → (⟨S360x16x15488, .i32⟩ : BufTy).Contents (Elt F)),
    binary main_v13 main_v14 main_v15 (Host.shli : (⟨S360x16x15488, .i32⟩ : BufTy).Contents (Elt F) → (⟨S360x16x15488, .i32⟩ : BufTy).Contents (Elt F) → (⟨S360x16x15488, .i32⟩ : BufTy).Contents (Elt F)),
    nullary main_c_5 (constantI S_ 32 6#32),
    unary main_c_5 main_v16 (broadcastInDim S360x16x15488 ![] bcast_S_S360x16x15488 : (⟨S_, .i32⟩ : BufTy).Contents (Elt F) → (⟨S360x16x15488, .i32⟩ : BufTy).Contents (Elt F)),
    binary main_v11 main_v16 main_v17 (Host.shli : (⟨S360x16x15488, .i32⟩ : BufTy).Contents (Elt F) → (⟨S360x16x15488, .i32⟩ : BufTy).Contents (Elt F) → (⟨S360x16x15488, .i32⟩ : BufTy).Contents (Elt F)),
    unary main_v7 main_v18 (broadcastInDim S360x16x15488 ![0, 1, 2] bcast_S360x1x15488_S360x16x15488_0_1_2 : (⟨S360x1x15488, .i32⟩ : BufTy).Contents (Elt F) → (⟨S360x16x15488, .i32⟩ : BufTy).Contents (Elt F)),
    binary main_v17 main_v18 main_v19 (addi : (⟨S360x16x15488, .i32⟩ : BufTy).Contents (Elt F) → (⟨S360x16x15488, .i32⟩ : BufTy).Contents (Elt F) → (⟨S360x16x15488, .i32⟩ : BufTy).Contents (Elt F)),
    nullary main_c_6 (constantI S_ 32 1#32),
    unary main_c_6 main_v20 (broadcastInDim S360x16x15488 ![] bcast_S_S360x16x15488 : (⟨S_, .i32⟩ : BufTy).Contents (Elt F) → (⟨S360x16x15488, .i32⟩ : BufTy).Contents (Elt F)),
    binary main_v11 main_v20 main_v21 (cmpi .ugt : (⟨S360x16x15488, .i32⟩ : BufTy).Contents (Elt F) → (⟨S360x16x15488, .i32⟩ : BufTy).Contents (Elt F) → (⟨S360x16x15488, .i1⟩ : BufTy).Contents (Elt F)),
    nullary main_c_7 (constantI S_ 32 1#32),
    unary main_c_7 main_v22 (broadcastInDim S360x16x15488 ![] bcast_S_S360x16x15488 : (⟨S_, .i32⟩ : BufTy).Contents (Elt F) → (⟨S360x16x15488, .i32⟩ : BufTy).Contents (Elt F)),
    binary main_v11 main_v22 main_v23 (cmpi .eq : (⟨S360x16x15488, .i32⟩ : BufTy).Contents (Elt F) → (⟨S360x16x15488, .i32⟩ : BufTy).Contents (Elt F) → (⟨S360x16x15488, .i1⟩ : BufTy).Contents (Elt F)),
    nullary main_c_8 (constantI S_ 32 0#32),
    TRef.unary (.of main_c_8 : TRef sig ⟨S_, .i32⟩) main_call0.v0 id,
    TRef.unary (.of main_v7 : TRef sig ⟨S360x1x15488, .i32⟩) main_call0.v1 (broadcastInDim S360x16x15488 ![0, 1, 2] bcast_S360x1x15488_S360x16x15488_0_1_2),
    TRef.unary main_call0.v0 main_call0.v2 (broadcastInDim S360x16x15488 ![] bcast_S_S360x16x15488),
    TRef.ternary (.of main_v23 : TRef sig ⟨S360x16x15488, .i1⟩) main_call0.v1 main_call0.v2 main_call0.v3 select,
    TRef.ternary (.of main_v21 : TRef sig ⟨S360x16x15488, .i1⟩) (.of main_v19 : TRef sig ⟨S360x16x15488, .i32⟩) (.of main_v24 : TRef sig ⟨S360x16x15488, .i32⟩) main_call1.v0 select,
    binary main_v25 main_v15 main_v26 (ori : (⟨S360x16x15488, .i32⟩ : BufTy).Contents (Elt F) → (⟨S360x16x15488, .i32⟩ : BufTy).Contents (Elt F) → (⟨S360x16x15488, .i32⟩ : BufTy).Contents (Elt F)),
    unary main_v26 main_v27 ((trunci 16 · natLt_16_32) : (⟨S360x16x15488, .i32⟩ : BufTy).Contents (Elt F) → (⟨S360x16x15488, .i16⟩ : BufTy).Contents (Elt F)),
    unary main_v27 main_v28 (bitcastToFloat .bf16 : (⟨S360x16x15488, .i16⟩ : BufTy).Contents (Elt F) → (⟨S360x16x15488, .bf16⟩ : BufTy).Contents (Elt F)),
    reshape main_v28 main_v29 (rfl : (.bf16 : EltTy) = .bf16) shapeCasts_S360x16x15488_S5760x15488,
    nullary main_c_9 (constantI S_ 32 4#32),
    unary main_c_9 main_v30 (broadcastInDim S360x16x15488 ![] bcast_S_S360x16x15488 : (⟨S_, .i32⟩ : BufTy).Contents (Elt F) → (⟨S360x16x15488, .i32⟩ : BufTy).Contents (Elt F)),
    binary main_v1 main_v30 main_v31 (Host.shrui : (⟨S360x16x15488, .i32⟩ : BufTy).Contents (Elt F) → (⟨S360x16x15488, .i32⟩ : BufTy).Contents (Elt F) → (⟨S360x16x15488, .i32⟩ : BufTy).Contents (Elt F)),
    nullary main_c_10 (constantI S_ 32 7#32),
    unary main_c_10 main_v32 (broadcastInDim S360x16x15488 ![] bcast_S_S360x16x15488 : (⟨S_, .i32⟩ : BufTy).Contents (Elt F) → (⟨S360x16x15488, .i32⟩ : BufTy).Contents (Elt F)),
    binary main_v31 main_v32 main_v33 (andi : (⟨S360x16x15488, .i32⟩ : BufTy).Contents (Elt F) → (⟨S360x16x15488, .i32⟩ : BufTy).Contents (Elt F) → (⟨S360x16x15488, .i32⟩ : BufTy).Contents (Elt F)),
    nullary main_c_11 (constantI S_ 32 8#32),
    unary main_c_11 main_v34 (broadcastInDim S360x16x15488 ![] bcast_S_S360x16x15488 : (⟨S_, .i32⟩ : BufTy).Contents (Elt F) → (⟨S360x16x15488, .i32⟩ : BufTy).Contents (Elt F)),
    binary main_v31 main_v34 main_v35 (andi : (⟨S360x16x15488, .i32⟩ : BufTy).Contents (Elt F) → (⟨S360x16x15488, .i32⟩ : BufTy).Contents (Elt F) → (⟨S360x16x15488, .i32⟩ : BufTy).Contents (Elt F)),
    nullary main_c_12 (constantI S_ 32 12#32),
    unary main_c_12 main_v36 (broadcastInDim S360x16x15488 ![] bcast_S_S360x16x15488 : (⟨S_, .i32⟩ : BufTy).Contents (Elt F) → (⟨S360x16x15488, .i32⟩ : BufTy).Contents (Elt F)),
    binary main_v35 main_v36 main_v37 (Host.shli : (⟨S360x16x15488, .i32⟩ : BufTy).Contents (Elt F) → (⟨S360x16x15488, .i32⟩ : BufTy).Contents (Elt F) → (⟨S360x16x15488, .i32⟩ : BufTy).Contents (Elt F)),
    nullary main_c_13 (constantI S_ 32 6#32),
    unary main_c_13 main_v38 (broadcastInDim S360x16x15488 ![] bcast_S_S360x16x15488 : (⟨S_, .i32⟩ : BufTy).Contents (Elt F) → (⟨S360x16x15488, .i32⟩ : BufTy).Contents (Elt F)),
    binary main_v33 main_v38 main_v39 (Host.shli : (⟨S360x16x15488, .i32⟩ : BufTy).Contents (Elt F) → (⟨S360x16x15488, .i32⟩ : BufTy).Contents (Elt F) → (⟨S360x16x15488, .i32⟩ : BufTy).Contents (Elt F)),
    unary main_v7 main_v40 (broadcastInDim S360x16x15488 ![0, 1, 2] bcast_S360x1x15488_S360x16x15488_0_1_2 : (⟨S360x1x15488, .i32⟩ : BufTy).Contents (Elt F) → (⟨S360x16x15488, .i32⟩ : BufTy).Contents (Elt F)),
    binary main_v39 main_v40 main_v41 (addi : (⟨S360x16x15488, .i32⟩ : BufTy).Contents (Elt F) → (⟨S360x16x15488, .i32⟩ : BufTy).Contents (Elt F) → (⟨S360x16x15488, .i32⟩ : BufTy).Contents (Elt F)),
    nullary main_c_14 (constantI S_ 32 1#32),
    unary main_c_14 main_v42 (broadcastInDim S360x16x15488 ![] bcast_S_S360x16x15488 : (⟨S_, .i32⟩ : BufTy).Contents (Elt F) → (⟨S360x16x15488, .i32⟩ : BufTy).Contents (Elt F)),
    binary main_v33 main_v42 main_v43 (cmpi .ugt : (⟨S360x16x15488, .i32⟩ : BufTy).Contents (Elt F) → (⟨S360x16x15488, .i32⟩ : BufTy).Contents (Elt F) → (⟨S360x16x15488, .i1⟩ : BufTy).Contents (Elt F)),
    nullary main_c_15 (constantI S_ 32 1#32),
    unary main_c_15 main_v44 (broadcastInDim S360x16x15488 ![] bcast_S_S360x16x15488 : (⟨S_, .i32⟩ : BufTy).Contents (Elt F) → (⟨S360x16x15488, .i32⟩ : BufTy).Contents (Elt F)),
    binary main_v33 main_v44 main_v45 (cmpi .eq : (⟨S360x16x15488, .i32⟩ : BufTy).Contents (Elt F) → (⟨S360x16x15488, .i32⟩ : BufTy).Contents (Elt F) → (⟨S360x16x15488, .i1⟩ : BufTy).Contents (Elt F)),
    nullary main_c_16 (constantI S_ 32 0#32),
    TRef.unary (.of main_c_16 : TRef sig ⟨S_, .i32⟩) main_call2.v0 id,
    TRef.unary (.of main_v7 : TRef sig ⟨S360x1x15488, .i32⟩) main_call2.v1 (broadcastInDim S360x16x15488 ![0, 1, 2] bcast_S360x1x15488_S360x16x15488_0_1_2),
    TRef.unary main_call2.v0 main_call2.v2 (broadcastInDim S360x16x15488 ![] bcast_S_S360x16x15488),
    TRef.ternary (.of main_v45 : TRef sig ⟨S360x16x15488, .i1⟩) main_call2.v1 main_call2.v2 main_call2.v3 select,
    TRef.ternary (.of main_v43 : TRef sig ⟨S360x16x15488, .i1⟩) (.of main_v41 : TRef sig ⟨S360x16x15488, .i32⟩) (.of main_v46 : TRef sig ⟨S360x16x15488, .i32⟩) main_call3.v0 select,
    binary main_v47 main_v37 main_v48 (ori : (⟨S360x16x15488, .i32⟩ : BufTy).Contents (Elt F) → (⟨S360x16x15488, .i32⟩ : BufTy).Contents (Elt F) → (⟨S360x16x15488, .i32⟩ : BufTy).Contents (Elt F)),
    unary main_v48 main_v49 ((trunci 16 · natLt_16_32) : (⟨S360x16x15488, .i32⟩ : BufTy).Contents (Elt F) → (⟨S360x16x15488, .i16⟩ : BufTy).Contents (Elt F)),
    unary main_v49 main_v50 (bitcastToFloat .bf16 : (⟨S360x16x15488, .i16⟩ : BufTy).Contents (Elt F) → (⟨S360x16x15488, .bf16⟩ : BufTy).Contents (Elt F)),
    reshape main_v50 main_v51 (rfl : (.bf16 : EltTy) = .bf16) shapeCasts_S360x16x15488_S5760x15488,
    unary main_arg0 main_v52 ((Host.slice S192x1x5760 ![0, 0, 0] ![1, 1, 2] · slicesBy_S192x1x11520_S192x1x5760_0s1_0s1_0s2) : (⟨S192x1x11520, .bf16⟩ : BufTy).Contents (Elt F) → (⟨S192x1x5760, .bf16⟩ : BufTy).Contents (Elt F)),
    unary main_arg0 main_v53 ((Host.slice S192x1x5760 ![0, 0, 1] ![1, 1, 2] · slicesBy_S192x1x11520_S192x1x5760_0s1_0s1_1s2) : (⟨S192x1x11520, .bf16⟩ : BufTy).Contents (Elt F) → (⟨S192x1x5760, .bf16⟩ : BufTy).Contents (Elt F)),
    binary main_v52 main_v29 main_v54 ((fun l r => Host.dotGeneral dot_S192x1x5760_S5760x15488_S192x1x15488_2_0_01_1_n_n none l r) : (⟨S192x1x5760, .bf16⟩ : BufTy).Contents (Elt F) → (⟨S5760x15488, .bf16⟩ : BufTy).Contents (Elt F) → (⟨S192x1x15488, .f32⟩ : BufTy).Contents (Elt F)),
    binary main_v53 main_v51 main_v55 ((fun l r => Host.dotGeneral dot_S192x1x5760_S5760x15488_S192x1x15488_2_0_01_1_n_n none l r) : (⟨S192x1x5760, .bf16⟩ : BufTy).Contents (Elt F) → (⟨S5760x15488, .bf16⟩ : BufTy).Contents (Elt F) → (⟨S192x1x15488, .f32⟩ : BufTy).Contents (Elt F)),
    binary main_v54 main_v55 main_v56 (addf : (⟨S192x1x15488, .f32⟩ : BufTy).Contents (Elt F) → (⟨S192x1x15488, .f32⟩ : BufTy).Contents (Elt F) → (⟨S192x1x15488, .f32⟩ : BufTy).Contents (Elt F)),
    unary main_v56 main_v57 ((truncf .bf16 · bitsLt_bf16_f32) : (⟨S192x1x15488, .f32⟩ : BufTy).Contents (Elt F) → (⟨S192x1x15488, .bf16⟩ : BufTy).Contents (Elt F)),
    reshape main_v57 main_v58 (rfl : (.bf16 : EltTy) = .bf16) shapeCasts_S192x1x15488_S192x15488 ]

set_option maxHeartbeats 4000000 in
/-- @main is that straight line. -/
theorem main_eq (c : Dev nD) : main (F := F) c = seq ops := rfl

/-- The fold of the operations at the result's buffer; -/
theorem out_eq (V : Valuation τ sig (Elt F)) :
    after ops V (main_v58 : DevRef τ sig)
      = refOut (V (main_arg0 : DevRef τ sig)) (V (main_arg1 : DevRef τ sig)) (V (main_arg2 : DevRef τ sig)) := by
  after_reads_simp
  rfl

/-- no operation writes an argument's buffer. -/
theorem arg0_eq (V : Valuation τ sig (Elt F)) : after ops V (main_arg0 : DevRef τ sig) = V (main_arg0 : DevRef τ sig) := by
  after_reads_simp
theorem arg1_eq (V : Valuation τ sig (Elt F)) : after ops V (main_arg1 : DevRef τ sig) = V (main_arg1 : DevRef τ sig) := by
  after_reads_simp
theorem arg2_eq (V : Valuation τ sig (Elt F)) : after ops V (main_arg2 : DevRef τ sig) = V (main_arg2 : DevRef τ sig) := by
  after_reads_simp

/-- Nothing is scoped on this signature. -/
theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨unary_bufs_sub .., reshape_bufs_sub .., unary_bufs_sub .., nullary_bufs_sub .., unary_bufs_sub .., binary_bufs_sub ..,
    nullary_bufs_sub .., unary_bufs_sub .., binary_bufs_sub .., unary_bufs_sub .., nullary_bufs_sub .., unary_bufs_sub ..,
    binary_bufs_sub .., nullary_bufs_sub .., unary_bufs_sub .., binary_bufs_sub .., nullary_bufs_sub .., unary_bufs_sub ..,
    binary_bufs_sub .., nullary_bufs_sub .., unary_bufs_sub .., binary_bufs_sub .., nullary_bufs_sub .., unary_bufs_sub ..,
    binary_bufs_sub .., unary_bufs_sub .., binary_bufs_sub .., nullary_bufs_sub .., unary_bufs_sub .., binary_bufs_sub ..,
    nullary_bufs_sub .., unary_bufs_sub .., binary_bufs_sub .., nullary_bufs_sub .., unary_bufs_sub .., unary_bufs_sub ..,
    unary_bufs_sub .., ternary_bufs_sub .., ternary_bufs_sub .., binary_bufs_sub .., unary_bufs_sub .., unary_bufs_sub ..,
    reshape_bufs_sub .., nullary_bufs_sub .., unary_bufs_sub .., binary_bufs_sub .., nullary_bufs_sub .., unary_bufs_sub ..,
    binary_bufs_sub .., nullary_bufs_sub .., unary_bufs_sub .., binary_bufs_sub .., nullary_bufs_sub .., unary_bufs_sub ..,
    binary_bufs_sub .., nullary_bufs_sub .., unary_bufs_sub .., binary_bufs_sub .., unary_bufs_sub .., binary_bufs_sub ..,
    nullary_bufs_sub .., unary_bufs_sub .., binary_bufs_sub .., nullary_bufs_sub .., unary_bufs_sub .., binary_bufs_sub ..,
    nullary_bufs_sub .., unary_bufs_sub .., unary_bufs_sub .., unary_bufs_sub .., ternary_bufs_sub .., ternary_bufs_sub ..,
    binary_bufs_sub .., unary_bufs_sub .., unary_bufs_sub .., reshape_bufs_sub .., unary_bufs_sub .., unary_bufs_sub ..,
    binary_bufs_sub .., binary_bufs_sub .., binary_bufs_sub .., unary_bufs_sub .., reshape_bufs_sub ..⟩

/-- From any memory with zero counters the reference runs and ends with its result at `refOut` of the arguments, the
    arguments as they were and every counter at zero. -/
theorem run_main (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v58)
          = refOut (m ((c.tc : Thread nD τ).loc main_arg0)) (m ((c.tc : Thread nD τ).loc main_arg1)) (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.sem = fun _ => 0 :=
  (θ_run defs _ _).mono (fun r h => ⟨fun c => ⟨(h c main_v58).trans (out_eq _), (h c main_arg0).trans (arg0_eq _),
      (h c main_arg1).trans (arg1_eq _), (h c main_arg2).trans (arg2_eq _)⟩, Idealize.ShloMosaic.sem_eq_zero_of_no_sems (by decide) r.2⟩)
    (run_seq scopedRefs_eq scopedSems_eq defs main (fun _ => ops) main_eq (fun _ => ops_sub) m ρ)

end Cert.ReferenceIdeal.Run

end
-- ==== Proof.RefValue.lean ====
/-
  The reference's result over the reals, element by element.

  `refOut_apply`: two sums, over the even and the odd columns of `x`. Where the precondition holds (`pre_apply`) their
  weights are the kernel's (`weights_eq`), and together they are one sum over all the columns (`refOut_eq`).
-/
module

public import proofs.«01_k».proof.Proof.Ref
public import proofs.«01_k».proof.Proof.Elem
public import proofs.«01_k».proof.Proof.Gen.Pre_scales_finite
public import Idealize.ShloMosaic.Lib.Pointwise

@[expose] public section

set_option maxRecDepth 16384

noncomputable section

namespace Cert.ReferenceIdeal.Run

open Cert.ReferenceIdeal Cert.ReferenceIdeal.Gen
open Idealize.ShloMosaic Idealize.ShloMosaic.TcCoe

theorem codes_apply (C : IVec S5760x15488 8) (b : Fin 360) (i : Fin 16) (n : Fin 15488) :
    codes C (ix3 b i n) = (C (ix2 ⟨b.val * 16 + i.val, by omega⟩ n)).setWidth 32 := by
  unfold codes
  pointwise

theorem halfBits_apply (S : IVec S360x15488 8) (b : Fin 360) (n : Fin 15488) :
    halfBits S (ix3 b 0 n) = Elem.half (S (ix2 b n)) := by
  unfold halfBits Elem.half
  pointwise
  rfl

theorem ofBool_eq_one (b : Bool) : BitVec.ofBool b = 1#1 ↔ b = true := by cases b <;> decide

theorem select_gt {α : Type} (w : BitVec 32) (a b : α) : Scalar.select (IntOp.cmpi .ugt w 1#32) a b = if 1#32 < w then a else b := by
  show (if BitVec.ofBool ((1#32).ult w) = 1#1 then a else b) = _
  simp only [ofBool_eq_one, BitVec.ult_iff_lt]

theorem select_eq {α : Type} (w : BitVec 32) (a b : α) : Scalar.select (IntOp.cmpi .eq w 1#32) a b = if w = 1#32 then a else b := by
  show (if BitVec.ofBool (w == 1#32) = 1#1 then a else b) = _
  simp only [ofBool_eq_one, beq_iff_eq]

theorem weights_apply (c : IVec S360x16x15488 32) (h : IVec S360x1x15488 32) (q : Fin 5760) (n : Fin 15488) :
    weights (F := Ideal) c h (ix2 q n)
      = Ideal.ofBits .bf16 (Elem.prodBits (c (ix3 ⟨q.val / 16, by omega⟩ ⟨q.val % 16, by omega⟩ n)) (h (ix3 ⟨q.val / 16, by omega⟩ 0 n))) := by
  unfold weights Elem.prodBits fill3
  pointwise
  rw [select_gt, select_eq]
  rfl

theorem refOut_apply (x : FVec Ideal S192x1x11520 .bf16) (C : IVec S5760x15488 8) (S : IVec S360x15488 8) (r : Fin 192) (n : Fin 15488) :
    refOut x C S (ix2 r n)
      = (∑ q : Fin 5760, x (ix3 r 0 ⟨2 * q.val, by omega⟩) * Elem.refWeight (C (ix2 q n)) (S (ix2 ⟨q.val / 16, by omega⟩ n)) 0)
        + ∑ q : Fin 5760, x (ix3 r 0 ⟨2 * q.val + 1, by omega⟩) * Elem.refWeight (C (ix2 q n)) (S (ix2 ⟨q.val / 16, by omega⟩ n)) 1 := by
  unfold refOut
  pointwise [weights_apply, codes_apply, halfBits_apply]
  refine congr (congrArg _ (Finset.sum_congr rfl fun q _ => ?_)) (Finset.sum_congr rfl fun q _ => ?_)
  · refine congrArg _ ?_
    unfold Elem.refWeight
    rw [show (⟨q.val / 16 * 16 + q.val % 16, by omega⟩ : Fin 5760) = q from Fin.ext (by show q.val / 16 * 16 + q.val % 16 = q.val; omega)]
    rfl
  · refine congr (congrArg _ (congrArg x ?_)) ?_
    · rw [show (⟨1 + 2 * q.val, by omega⟩ : Fin 11520) = ⟨2 * q.val + 1, by omega⟩ from Fin.ext (by show 1 + 2 * q.val = 2 * q.val + 1; omega)]
    unfold Elem.refWeight
    rw [show (⟨q.val / 16 * 16 + q.val % 16, by omega⟩ : Fin 5760) = q from Fin.ext (by show q.val / 16 * 16 + q.val % 16 = q.val; omega)]
    rfl

/-- Where a code of a byte is not zero, its scale is from 2 to 252. -/
theorem pre_apply (x : FVec Ideal S192x1x11520 .bf16) (C : IVec S5760x15488 8) (S : IVec S360x15488 8)
    (h : (Cert.Pre_scales_finite.fn (F := Ideal) x C S) = fun _ => 1#1) (q : Fin 5760) (n : Fin 15488) :
    (C (ix2 q n)).setWidth 32 &&& 119#32 = 0#32 ∨ (2 ≤ (S (ix2 ⟨q.val / 16, by omega⟩ n)).toNat ∧ (S (ix2 ⟨q.val / 16, by omega⟩ n)).toNat ≤ 252) := by
  have := congrFun h (ix3 ⟨q.val / 16, by omega⟩ ⟨q.val % 16, by omega⟩ n)
  unfold Cert.Pre_scales_finite.fn at this
  pointwise at this
  generalize C (ix2 q n) = c at this ⊢
  generalize S (ix2 _ n) = s at this ⊢
  have hor : ∀ a b : BitVec 1, a ||| b = 1#1 → a = 1#1 ∨ b = 1#1 := by decide
  have hand : ∀ a b : BitVec 1, a &&& b = 1#1 → a = 1#1 ∧ b = 1#1 := by decide
  rcases hor _ _ this with h1 | h1
  · left
    have h2 : ((c.setWidth 32 &&& 119#32) == 0#32) = true := (ofBool_eq_one _).mp h1
    exact beq_iff_eq.mp h2
  · right
    obtain ⟨h2, h3⟩ := hand _ _ h1
    have h4 : (2#32).ule (s.setWidth 32) = true := (ofBool_eq_one _).mp h2
    have h5 : (s.setWidth 32).ule 252#32 = true := (ofBool_eq_one _).mp h3
    rw [BitVec.ule_iff_le, BitVec.le_def] at h4 h5
    have := s.isLt
    rw [BitVec.toNat_setWidth, Nat.mod_eq_of_lt (by omega)] at h4 h5
    exact ⟨h4, h5⟩

/-- Such a byte's weights are the kernel's. -/
theorem weights_eq (x : FVec Ideal S192x1x11520 .bf16) (C : IVec S5760x15488 8) (S : IVec S360x15488 8)
    (h : (Cert.Pre_scales_finite.fn (F := Ideal) x C S) = fun _ => 1#1) (q : Fin 5760) (n : Fin 15488) (p : Nat) (hp : p < 2) :
    Elem.kerWeight (C (ix2 q n)) (S (ix2 ⟨q.val / 16, by omega⟩ n)) p = Elem.refWeight (C (ix2 q n)) (S (ix2 ⟨q.val / 16, by omega⟩ n)) p := by
  refine Elem.weight_eq _ _ p hp ?_
  rcases pre_apply x C S h q n with h1 | h1
  · left; exact Elem.code_zero _ h1 p hp
  · right; exact h1

theorem weight_at (C : IVec S5760x15488 8) (S : IVec S360x15488 8) (n : Fin 15488) (q : Fin 5760) (K : Nat) (hK : K < 11520) (p : Nat)
    (h1 : K / 2 = q.val) (h2 : K / 32 = q.val / 16) (h3 : K % 2 = p) :
    Elem.kerWeight (C (ix2 q n)) (S (ix2 ⟨q.val / 16, by omega⟩ n)) p
      = Elem.kerWeight (C (ix2 ⟨K / 2, by omega⟩ n)) (S (ix2 ⟨K / 32, by omega⟩ n)) (K % 2) := by
  subst h3
  rw [show (⟨K / 2, by omega⟩ : Fin 5760) = q from Fin.ext h1, show (⟨K / 32, by omega⟩ : Fin 360) = ⟨q.val / 16, by omega⟩ from Fin.ext h2]

/-- The reference's result as the kernel's sum. -/
theorem refOut_eq (x : FVec Ideal S192x1x11520 .bf16) (C : IVec S5760x15488 8) (S : IVec S360x15488 8)
    (h : (Cert.Pre_scales_finite.fn (F := Ideal) x C S) = fun _ => 1#1) (r : Fin 192) (n : Fin 15488) :
    refOut x C S (ix2 r n)
      = ∑ K : Fin 11520, x (ix3 r 0 K) * Elem.kerWeight (C (ix2 ⟨K.val / 2, by omega⟩ n)) (S (ix2 ⟨K.val / 32, by omega⟩ n)) (K.val % 2) := by
  let g : Nat → EReal := fun K => if hK : K < 11520 then
    x (ix3 r 0 ⟨K, hK⟩) * Elem.kerWeight (C (ix2 ⟨K / 2, by omega⟩ n)) (S (ix2 ⟨K / 32, by omega⟩ n)) (K % 2) else 0
  have e : (∑ K : Fin 11520, x (ix3 r 0 K) * Elem.kerWeight (C (ix2 ⟨K.val / 2, by omega⟩ n)) (S (ix2 ⟨K.val / 32, by omega⟩ n)) (K.val % 2))
      = ∑ K ∈ Finset.range (2 * 5760), g K := by
    rw [Finset.sum_range]
    exact Finset.sum_congr rfl fun K _ => by simp only [g]; rw [dif_pos K.isLt]
  rw [e, Elem.sum_parity, refOut_apply, Finset.sum_range, Finset.sum_range]
  refine congr (congrArg _ (Finset.sum_congr rfl fun q _ => ?_)) (Finset.sum_congr rfl fun q _ => ?_)
  · rw [← weights_eq x C S h q n 0 (by omega), weight_at C S n q (2 * q.val) (by omega) 0 (by omega) (by omega) (by omega)]
    simp only [g]
    rw [dif_pos (show 2 * q.val < 11520 by omega)]
  · rw [← weights_eq x C S h q n 1 (by omega), weight_at C S n q (2 * q.val + 1) (by omega) 1 (by omega) (by omega) (by omega)]
    simp only [g]
    rw [dif_pos (show 2 * q.val + 1 < 11520 by omega)]

end Cert.ReferenceIdeal.Run

end
-- ==== Proof.lean ====
/-
  The certificate's claims, proved.

  The frames are the two kernels' runs with the result forgotten (`run_forget`, at any float values) and the
  reference's run (`run_main`). The value: over the reals the kernel's result is `result` of the arguments
  (`run_exact`), one sum over the columns of `x` each times its weight; the reference's, split into even and odd
  columns, is the same sum wherever the precondition holds (`refOut_eq`).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_scales_finite
public import proofs.«01_k».proof.Proof.KernelRun
public import proofs.«01_k».proof.Proof.Exact
public import proofs.«01_k».proof.Proof.RefValue

@[expose] public section

set_option maxRecDepth 16384

noncomputable section

namespace Cert.Proof

open Idealize.ShloMosaic Idealize.ShloMosaic.TcCoe Idealize.SL.Sem

/-- Where the precondition holds, the reference's result is the kernel's. -/
theorem value_eq (x : FVec Ideal Cert.ReferenceIdeal.S192x1x11520 .bf16) (C : IVec Cert.ReferenceIdeal.S5760x15488 8) (S : IVec Cert.ReferenceIdeal.S360x15488 8)
    (h : Cert.Pre_scales_finite.fn (F := Ideal) x C S = fun _ => 1#1) :
    Cert.ReferenceIdeal.Run.refOut x C S = Cert.KernelIdeal.Body.result x C S := by
  funext i
  rw [eq_ix2 i]
  exact Cert.ReferenceIdeal.Run.refOut_eq x C S h (i 0) (i 1)

theorem claim : Cert.Claim := ⟨Cert.Kernel.Gen.facts, Cert.KernelIdeal.Gen.facts, Cert.ReferenceIdeal.Gen.facts, Cert.Pre_scales_finite.Gen.facts,
  fun m g _ => Cert.Kernel.Body.run_forget m g,
  fun m g _ => Cert.KernelIdeal.Body.run_forget m g,
  fun m g _ => Cert.KernelIdeal.Body.run_forget m g,
  fun m g _ => (θ_run Cert.ReferenceIdeal.defs _ _).mono (fun r h => ⟨fun c => (h.1 c).2, h.2⟩) (Cert.ReferenceIdeal.Run.run_main m g),
  fun m g _ => (θ_run Cert.ReferenceIdeal.defs _ _).mono (fun r h => ⟨fun c => (h.1 c).2, h.2⟩) (Cert.ReferenceIdeal.Run.run_main m g),
  trivial,
  fun m g m' g' hpre hagree =>
    ⟨fun c => Cert.KernelIdeal.Body.result (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2)),
      Cert.KernelIdeal.Body.run_exact m g,
      (θ_run Cert.ReferenceIdeal.defs _ _).mono (fun r h c => ⟨(h.1 c).1.trans (by
        rw [(hagree c).1, (hagree c).2.1, (hagree c).2.2]
        exact value_eq _ _ _ (hpre c)), (h.1 c).2⟩) (Cert.ReferenceIdeal.Run.run_main m' g')⟩⟩

end Cert.Proof

end
